-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S_ : Shape := ⟨0, ![]⟩
abbrev S3x4 : Shape := ⟨2, ![3, 4]⟩
abbrev S6x4 : Shape := ⟨2, ![6, 4]⟩
abbrev S6x2 : Shape := ⟨2, ![6, 2]⟩
abbrev S1x1 : Shape := ⟨2, ![1, 1]⟩
abbrev S256x1024 : Shape := ⟨2, ![256, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 1 → Bool
  | ⟨0, _⟩ => false
  | _ => false

abbrev dmaSemScoped : Fin 193 → Bool
  | ⟨i, _⟩ => dmaSemScopedAt i

abbrev sig : RefSig :=
  (ofTc nBuf bufTy 1 193 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_44 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_43 : BitVec 32 := 16#32
  let v73 : BitVec 32 := Scalar.muli v9 c16_i32_43
  let v74 : BitVec 32 := Scalar.addi c0_i32_44 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v75 : BitVec 32 := Scalar.muli v5 c4_i32_45
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v77 : BitVec 32 := Scalar.muli v8 c1_i32_46
  let v78 : BitVec 32 := Scalar.addi v76 v77
  v78.toNat
def k0_dev2 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v79 : BitVec 32 := Scalar.muli v2 c16_i32_48
  let v80 : BitVec 32 := Scalar.addi c0_i32_49 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_50 : BitVec 32 := 4#32
  let v81 : BitVec 32 := Scalar.muli v22 c4_i32_50
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v83 : BitVec 32 := Scalar.muli v8 c1_i32_51
  let v84 : BitVec 32 := Scalar.addi v82 v83
  v84.toNat
def k0_dev3 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v85 : BitVec 32 := Scalar.muli v2 c16_i32_53
  let v86 : BitVec 32 := Scalar.addi c0_i32_54 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v87 : BitVec 32 := Scalar.muli v5 c4_i32_55
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_56 : BitVec 32 := 1#32
  let v89 : BitVec 32 := Scalar.muli v57 c1_i32_56
  let v90 : BitVec 32 := Scalar.addi v88 v89
  v90.toNat
def k0_dev4 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v91 : BitVec 32 := Scalar.muli v2 c16_i32_58
  let v92 : BitVec 32 := Scalar.addi c0_i32_59 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v93 : BitVec 32 := Scalar.muli v5 c4_i32_60
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_61 : BitVec 32 := 1#32
  let v95 : BitVec 32 := Scalar.muli v69 c1_i32_61
  let v96 : BitVec 32 := Scalar.addi v94 v95
  v96.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v97 : BitVec 32 := Scalar.muli v8 c4096_i32
  let c0_i32_63 : BitVec 32 := 0#32
  ![v97.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v99 : BitVec 32 := Scalar.extui v70
  let c0_i32_64 : BitVec 32 := 0#32
  let v100 : BitVec 1 := Scalar.cmpi .ne v99 c0_i32_64
  v100

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_296 : BitVec 32 := 0#32
  ![v469.toNat, 0]
def k0_off3 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c0_i32_287 : BitVec 32 := 0#32
  let v470 : BitVec 32 := Scalar.addi v35 c0_i32_287
  let c0_i32_297 : BitVec 32 := 0#32
  ![v470.toNat, 0]
def k0_dev5 (d0 : Dev nD) : Nat :=
  let c0_i32_293 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_292 : BitVec 32 := 16#32
  let v471 : BitVec 32 := Scalar.muli v2 c16_i32_292
  let v472 : BitVec 32 := Scalar.addi c0_i32_293 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_294 : BitVec 32 := 4#32
  let v473 : BitVec 32 := Scalar.muli v5 c4_i32_294
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_295 : BitVec 32 := 1#32
  let v475 : BitVec 32 := Scalar.muli v57 c1_i32_295
  let v476 : BitVec 32 := Scalar.addi v474 v475
  v476.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v101 : BitVec 32 := Scalar.extui v71
  let c0_i32_65 : BitVec 32 := 0#32
  let v102 : BitVec 1 := Scalar.cmpi .ne v101 c0_i32_65
  v102

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_296 : BitVec 32 := 0#32
  ![v469.toNat, 0]
def k0_off5 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c0_i32_287 : BitVec 32 := 0#32
  let v470 : BitVec 32 := Scalar.addi v35 c0_i32_287
  let c0_i32_297 : BitVec 32 := 0#32
  ![v470.toNat, 0]
def k0_dev6 (d0 : Dev nD) : Nat :=
  let c0_i32_293 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_292 : BitVec 32 := 16#32
  let v471 : BitVec 32 := Scalar.muli v2 c16_i32_292
  let v472 : BitVec 32 := Scalar.addi c0_i32_293 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_294 : BitVec 32 := 4#32
  let v473 : BitVec 32 := Scalar.muli v5 c4_i32_294
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_295 : BitVec 32 := 1#32
  let v475 : BitVec 32 := Scalar.muli v69 c1_i32_295
  let v476 : BitVec 32 := Scalar.addi v474 v475
  v476.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v103 : BitVec 32 := Scalar.extui v70
  let c0_i32_66 : BitVec 32 := 0#32
  let v104 : BitVec 1 := Scalar.cmpi .ne v103 c0_i32_66
  v104

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_295 : BitVec 32 := 0#32
  ![v469.toNat, 0]
def k0_off7 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c256_i32_286 : BitVec 32 := 256#32
  let v470 : BitVec 32 := Scalar.addi v35 c256_i32_286
  let c0_i32_296 : BitVec 32 := 0#32
  ![v470.toNat, 0]
def k0_dev7 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v471 : BitVec 32 := Scalar.muli v2 c16_i32_291
  let v472 : BitVec 32 := Scalar.addi c0_i32_292 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v473 : BitVec 32 := Scalar.muli v5 c4_i32_293
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_294 : BitVec 32 := 1#32
  let v475 : BitVec 32 := Scalar.muli v57 c1_i32_294
  let v476 : BitVec 32 := Scalar.addi v474 v475
  v476.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v105 : BitVec 32 := Scalar.extui v71
  let c0_i32_67 : BitVec 32 := 0#32
  let v106 : BitVec 1 := Scalar.cmpi .ne v105 c0_i32_67
  v106

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_295 : BitVec 32 := 0#32
  ![v469.toNat, 0]
def k0_off9 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c256_i32_286 : BitVec 32 := 256#32
  let v470 : BitVec 32 := Scalar.addi v35 c256_i32_286
  let c0_i32_296 : BitVec 32 := 0#32
  ![v470.toNat, 0]
def k0_dev8 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v471 : BitVec 32 := Scalar.muli v2 c16_i32_291
  let v472 : BitVec 32 := Scalar.addi c0_i32_292 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v473 : BitVec 32 := Scalar.muli v5 c4_i32_293
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_294 : BitVec 32 := 1#32
  let v475 : BitVec 32 := Scalar.muli v69 c1_i32_294
  let v476 : BitVec 32 := Scalar.addi v474 v475
  v476.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v107 : BitVec 32 := Scalar.extui v70
  let c0_i32_68 : BitVec 32 := 0#32
  let v108 : BitVec 1 := Scalar.cmpi .ne v107 c0_i32_68
  v108

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_295 : BitVec 32 := 0#32
  ![v469.toNat, 0]
def k0_off11 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c512_i32_286 : BitVec 32 := 512#32
  let v470 : BitVec 32 := Scalar.addi v35 c512_i32_286
  let c0_i32_296 : BitVec 32 := 0#32
  ![v470.toNat, 0]
def k0_dev9 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v471 : BitVec 32 := Scalar.muli v2 c16_i32_291
  let v472 : BitVec 32 := Scalar.addi c0_i32_292 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v473 : BitVec 32 := Scalar.muli v5 c4_i32_293
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_294 : BitVec 32 := 1#32
  let v475 : BitVec 32 := Scalar.muli v57 c1_i32_294
  let v476 : BitVec 32 := Scalar.addi v474 v475
  v476.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v109 : BitVec 32 := Scalar.extui v71
  let c0_i32_69 : BitVec 32 := 0#32
  let v110 : BitVec 1 := Scalar.cmpi .ne v109 c0_i32_69
  v110

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_295 : BitVec 32 := 0#32
  ![v469.toNat, 0]
def k0_off13 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c512_i32_286 : BitVec 32 := 512#32
  let v470 : BitVec 32 := Scalar.addi v35 c512_i32_286
  let c0_i32_296 : BitVec 32 := 0#32
  ![v470.toNat, 0]
def k0_dev10 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v471 : BitVec 32 := Scalar.muli v2 c16_i32_291
  let v472 : BitVec 32 := Scalar.addi c0_i32_292 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v473 : BitVec 32 := Scalar.muli v5 c4_i32_293
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_294 : BitVec 32 := 1#32
  let v475 : BitVec 32 := Scalar.muli v69 c1_i32_294
  let v476 : BitVec 32 := Scalar.addi v474 v475
  v476.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v111 : BitVec 32 := Scalar.extui v70
  let c0_i32_70 : BitVec 32 := 0#32
  let v112 : BitVec 1 := Scalar.cmpi .ne v111 c0_i32_70
  v112

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_295 : BitVec 32 := 0#32
  ![v469.toNat, 0]
def k0_off15 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c768_i32_286 : BitVec 32 := 768#32
  let v470 : BitVec 32 := Scalar.addi v35 c768_i32_286
  let c0_i32_296 : BitVec 32 := 0#32
  ![v470.toNat, 0]
def k0_dev11 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v471 : BitVec 32 := Scalar.muli v2 c16_i32_291
  let v472 : BitVec 32 := Scalar.addi c0_i32_292 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v473 : BitVec 32 := Scalar.muli v5 c4_i32_293
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_294 : BitVec 32 := 1#32
  let v475 : BitVec 32 := Scalar.muli v57 c1_i32_294
  let v476 : BitVec 32 := Scalar.addi v474 v475
  v476.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v113 : BitVec 32 := Scalar.extui v71
  let c0_i32_71 : BitVec 32 := 0#32
  let v114 : BitVec 1 := Scalar.cmpi .ne v113 c0_i32_71
  v114

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_285 : BitVec 32 := 4096#32
  let v467 : BitVec 32 := Scalar.muli v8 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_295 : BitVec 32 := 0#32
  ![v469.toNat, 0]
def k0_off17 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c768_i32_286 : BitVec 32 := 768#32
  let v470 : BitVec 32 := Scalar.addi v35 c768_i32_286
  let c0_i32_296 : BitVec 32 := 0#32
  ![v470.toNat, 0]
def k0_dev12 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v471 : BitVec 32 := Scalar.muli v2 c16_i32_291
  let v472 : BitVec 32 := Scalar.addi c0_i32_292 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v473 : BitVec 32 := Scalar.muli v5 c4_i32_293
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_294 : BitVec 32 := 1#32
  let v475 : BitVec 32 := Scalar.muli v69 c1_i32_294
  let v476 : BitVec 32 := Scalar.addi v474 v475
  v476.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v115 : BitVec 1 := Scalar.cmpi .sge v8 c1_i32_72
  let v123 : BitVec 32 := Scalar.extui v115
  let c0_i32_79 : BitVec 32 := 0#32
  let v124 : BitVec 1 := Scalar.cmpi .ne v123 c0_i32_79
  v124

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_285 : BitVec 32 := 4096#32
  let v467 : BitVec 32 := Scalar.muli v120 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_296 : BitVec 32 := 0#32
  ![v469.toNat, 0]
def k0_off19 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c0_i32_287 : BitVec 32 := 0#32
  let v470 : BitVec 32 := Scalar.addi v35 c0_i32_287
  let c0_i32_297 : BitVec 32 := 0#32
  ![v470.toNat, 0]
def k0_dev13 (d0 : Dev nD) : Nat :=
  let c0_i32_305 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_304 : BitVec 32 := 16#32
  let v484 : BitVec 32 := Scalar.muli v2 c16_i32_304
  let v485 : BitVec 32 := Scalar.addi c0_i32_305 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_306 : BitVec 32 := 4#32
  let v486 : BitVec 32 := Scalar.muli v22 c4_i32_306
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v488 : BitVec 32 := Scalar.muli v8 c1_i32_307
  let v489 : BitVec 32 := Scalar.addi v487 v488
  v489.toNat
def k0_dev14 (d0 : Dev nD) : Nat :=
  let c0_i32_317 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_316 : BitVec 32 := 16#32
  let v499 : BitVec 32 := Scalar.muli v9 c16_i32_316
  let v500 : BitVec 32 := Scalar.addi c0_i32_317 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_318 : BitVec 32 := 4#32
  let v501 : BitVec 32 := Scalar.muli v5 c4_i32_318
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v503 : BitVec 32 := Scalar.muli v8 c1_i32_319
  let v504 : BitVec 32 := Scalar.addi v502 v503
  v504.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v511 : BitVec 32 := Scalar.extui v70
  let c0_i32_322 : BitVec 32 := 0#32
  let v512 : BitVec 1 := Scalar.cmpi .ne v511 c0_i32_322
  v512

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_323 : BitVec 32 := 4096#32
  let v513 : BitVec 32 := Scalar.muli v120 c4096_i32_323
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c0_i32_324 : BitVec 32 := 0#32
  let v515 : BitVec 32 := Scalar.addi v514 c0_i32_324
  let c0_i32_333 : BitVec 32 := 0#32
  ![v515.toNat, 0]
def k0_dev15 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v516 : BitVec 32 := Scalar.muli v2 c16_i32_329
  let v517 : BitVec 32 := Scalar.addi c0_i32_330 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v518 : BitVec 32 := Scalar.muli v5 c4_i32_331
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_332 : BitVec 32 := 1#32
  let v520 : BitVec 32 := Scalar.muli v57 c1_i32_332
  let v521 : BitVec 32 := Scalar.addi v519 v520
  v521.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let v116 : BitVec 32 := Scalar.addi v8 c0_i32_73
  let c1_i32_74 : BitVec 32 := 1#32
  let v117 : BitVec 32 := Scalar.addi v116 c1_i32_74
  let c3_i32 : BitVec 32 := 3#32
  let v118 : BitVec 1 := Scalar.cmpi .sle v117 c3_i32
  let v125 : BitVec 32 := Scalar.extui v118
  let c0_i32_80 : BitVec 32 := 0#32
  let v126 : BitVec 1 := Scalar.cmpi .ne v125 c0_i32_80
  v126

def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_285 : BitVec 32 := 4096#32
  let v467 : BitVec 32 := Scalar.muli v122 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_296 : BitVec 32 := 0#32
  ![v469.toNat, 0]
def k0_off22 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c0_i32_287 : BitVec 32 := 0#32
  let v470 : BitVec 32 := Scalar.addi v35 c0_i32_287
  let c0_i32_297 : BitVec 32 := 0#32
  ![v470.toNat, 0]
def k0_dev16 (d0 : Dev nD) : Nat :=
  let c0_i32_305 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_304 : BitVec 32 := 16#32
  let v484 : BitVec 32 := Scalar.muli v2 c16_i32_304
  let v485 : BitVec 32 := Scalar.addi c0_i32_305 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_306 : BitVec 32 := 4#32
  let v486 : BitVec 32 := Scalar.muli v22 c4_i32_306
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v488 : BitVec 32 := Scalar.muli v8 c1_i32_307
  let v489 : BitVec 32 := Scalar.addi v487 v488
  v489.toNat
def k0_dev17 (d0 : Dev nD) : Nat :=
  let c0_i32_317 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_316 : BitVec 32 := 16#32
  let v499 : BitVec 32 := Scalar.muli v9 c16_i32_316
  let v500 : BitVec 32 := Scalar.addi c0_i32_317 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_318 : BitVec 32 := 4#32
  let v501 : BitVec 32 := Scalar.muli v5 c4_i32_318
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v503 : BitVec 32 := Scalar.muli v8 c1_i32_319
  let v504 : BitVec 32 := Scalar.addi v502 v503
  v504.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v511 : BitVec 32 := Scalar.extui v71
  let c0_i32_322 : BitVec 32 := 0#32
  let v512 : BitVec 1 := Scalar.cmpi .ne v511 c0_i32_322
  v512

def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_323 : BitVec 32 := 4096#32
  let v513 : BitVec 32 := Scalar.muli v122 c4096_i32_323
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c0_i32_324 : BitVec 32 := 0#32
  let v515 : BitVec 32 := Scalar.addi v514 c0_i32_324
  let c0_i32_333 : BitVec 32 := 0#32
  ![v515.toNat, 0]
def k0_dev18 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v516 : BitVec 32 := Scalar.muli v2 c16_i32_329
  let v517 : BitVec 32 := Scalar.addi c0_i32_330 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v518 : BitVec 32 := Scalar.muli v5 c4_i32_331
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_332 : BitVec 32 := 1#32
  let v520 : BitVec 32 := Scalar.muli v69 c1_i32_332
  let v521 : BitVec 32 := Scalar.addi v519 v520
  v521.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v115 : BitVec 1 := Scalar.cmpi .sge v8 c1_i32_72
  let v127 : BitVec 32 := Scalar.extui v115
  let c0_i32_81 : BitVec 32 := 0#32
  let v128 : BitVec 1 := Scalar.cmpi .ne v127 c0_i32_81
  v128

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_285 : BitVec 32 := 4096#32
  let v467 : BitVec 32 := Scalar.muli v120 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_295 : BitVec 32 := 0#32
  ![v469.toNat, 0]
def k0_off25 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c256_i32_286 : BitVec 32 := 256#32
  let v470 : BitVec 32 := Scalar.addi v35 c256_i32_286
  let c0_i32_296 : BitVec 32 := 0#32
  ![v470.toNat, 0]
def k0_dev19 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v484 : BitVec 32 := Scalar.muli v2 c16_i32_303
  let v485 : BitVec 32 := Scalar.addi c0_i32_304 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v486 : BitVec 32 := Scalar.muli v22 c4_i32_305
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v488 : BitVec 32 := Scalar.muli v8 c1_i32_306
  let v489 : BitVec 32 := Scalar.addi v487 v488
  v489.toNat
def k0_dev20 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v499 : BitVec 32 := Scalar.muli v9 c16_i32_315
  let v500 : BitVec 32 := Scalar.addi c0_i32_316 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v501 : BitVec 32 := Scalar.muli v5 c4_i32_317
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v503 : BitVec 32 := Scalar.muli v8 c1_i32_318
  let v504 : BitVec 32 := Scalar.addi v502 v503
  v504.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v511 : BitVec 32 := Scalar.extui v70
  let c0_i32_321 : BitVec 32 := 0#32
  let v512 : BitVec 1 := Scalar.cmpi .ne v511 c0_i32_321
  v512

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_322 : BitVec 32 := 4096#32
  let v513 : BitVec 32 := Scalar.muli v120 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c256_i32_323 : BitVec 32 := 256#32
  let v515 : BitVec 32 := Scalar.addi v514 c256_i32_323
  let c0_i32_332 : BitVec 32 := 0#32
  ![v515.toNat, 0]
def k0_dev21 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v516 : BitVec 32 := Scalar.muli v2 c16_i32_328
  let v517 : BitVec 32 := Scalar.addi c0_i32_329 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v518 : BitVec 32 := Scalar.muli v5 c4_i32_330
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_331 : BitVec 32 := 1#32
  let v520 : BitVec 32 := Scalar.muli v57 c1_i32_331
  let v521 : BitVec 32 := Scalar.addi v519 v520
  v521.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let v116 : BitVec 32 := Scalar.addi v8 c0_i32_73
  let c1_i32_74 : BitVec 32 := 1#32
  let v117 : BitVec 32 := Scalar.addi v116 c1_i32_74
  let c3_i32 : BitVec 32 := 3#32
  let v118 : BitVec 1 := Scalar.cmpi .sle v117 c3_i32
  let v129 : BitVec 32 := Scalar.extui v118
  let c0_i32_82 : BitVec 32 := 0#32
  let v130 : BitVec 1 := Scalar.cmpi .ne v129 c0_i32_82
  v130

def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_285 : BitVec 32 := 4096#32
  let v467 : BitVec 32 := Scalar.muli v122 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_295 : BitVec 32 := 0#32
  ![v469.toNat, 0]
def k0_off28 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c256_i32_286 : BitVec 32 := 256#32
  let v470 : BitVec 32 := Scalar.addi v35 c256_i32_286
  let c0_i32_296 : BitVec 32 := 0#32
  ![v470.toNat, 0]
def k0_dev22 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v484 : BitVec 32 := Scalar.muli v2 c16_i32_303
  let v485 : BitVec 32 := Scalar.addi c0_i32_304 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v486 : BitVec 32 := Scalar.muli v22 c4_i32_305
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v488 : BitVec 32 := Scalar.muli v8 c1_i32_306
  let v489 : BitVec 32 := Scalar.addi v487 v488
  v489.toNat
def k0_dev23 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v499 : BitVec 32 := Scalar.muli v9 c16_i32_315
  let v500 : BitVec 32 := Scalar.addi c0_i32_316 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v501 : BitVec 32 := Scalar.muli v5 c4_i32_317
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v503 : BitVec 32 := Scalar.muli v8 c1_i32_318
  let v504 : BitVec 32 := Scalar.addi v502 v503
  v504.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v511 : BitVec 32 := Scalar.extui v71
  let c0_i32_321 : BitVec 32 := 0#32
  let v512 : BitVec 1 := Scalar.cmpi .ne v511 c0_i32_321
  v512

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_322 : BitVec 32 := 4096#32
  let v513 : BitVec 32 := Scalar.muli v122 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c256_i32_323 : BitVec 32 := 256#32
  let v515 : BitVec 32 := Scalar.addi v514 c256_i32_323
  let c0_i32_332 : BitVec 32 := 0#32
  ![v515.toNat, 0]
def k0_dev24 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v516 : BitVec 32 := Scalar.muli v2 c16_i32_328
  let v517 : BitVec 32 := Scalar.addi c0_i32_329 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v518 : BitVec 32 := Scalar.muli v5 c4_i32_330
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_331 : BitVec 32 := 1#32
  let v520 : BitVec 32 := Scalar.muli v69 c1_i32_331
  let v521 : BitVec 32 := Scalar.addi v519 v520
  v521.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v115 : BitVec 1 := Scalar.cmpi .sge v8 c1_i32_72
  let v131 : BitVec 32 := Scalar.extui v115
  let c0_i32_83 : BitVec 32 := 0#32
  let v132 : BitVec 1 := Scalar.cmpi .ne v131 c0_i32_83
  v132

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_285 : BitVec 32 := 4096#32
  let v467 : BitVec 32 := Scalar.muli v120 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_295 : BitVec 32 := 0#32
  ![v469.toNat, 0]
def k0_off31 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c512_i32_286 : BitVec 32 := 512#32
  let v470 : BitVec 32 := Scalar.addi v35 c512_i32_286
  let c0_i32_296 : BitVec 32 := 0#32
  ![v470.toNat, 0]
def k0_dev25 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v484 : BitVec 32 := Scalar.muli v2 c16_i32_303
  let v485 : BitVec 32 := Scalar.addi c0_i32_304 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v486 : BitVec 32 := Scalar.muli v22 c4_i32_305
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v488 : BitVec 32 := Scalar.muli v8 c1_i32_306
  let v489 : BitVec 32 := Scalar.addi v487 v488
  v489.toNat
def k0_dev26 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v499 : BitVec 32 := Scalar.muli v9 c16_i32_315
  let v500 : BitVec 32 := Scalar.addi c0_i32_316 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v501 : BitVec 32 := Scalar.muli v5 c4_i32_317
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v503 : BitVec 32 := Scalar.muli v8 c1_i32_318
  let v504 : BitVec 32 := Scalar.addi v502 v503
  v504.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v511 : BitVec 32 := Scalar.extui v70
  let c0_i32_321 : BitVec 32 := 0#32
  let v512 : BitVec 1 := Scalar.cmpi .ne v511 c0_i32_321
  v512

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_322 : BitVec 32 := 4096#32
  let v513 : BitVec 32 := Scalar.muli v120 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c512_i32_323 : BitVec 32 := 512#32
  let v515 : BitVec 32 := Scalar.addi v514 c512_i32_323
  let c0_i32_332 : BitVec 32 := 0#32
  ![v515.toNat, 0]
def k0_dev27 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v516 : BitVec 32 := Scalar.muli v2 c16_i32_328
  let v517 : BitVec 32 := Scalar.addi c0_i32_329 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v518 : BitVec 32 := Scalar.muli v5 c4_i32_330
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_331 : BitVec 32 := 1#32
  let v520 : BitVec 32 := Scalar.muli v57 c1_i32_331
  let v521 : BitVec 32 := Scalar.addi v519 v520
  v521.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let v116 : BitVec 32 := Scalar.addi v8 c0_i32_73
  let c1_i32_74 : BitVec 32 := 1#32
  let v117 : BitVec 32 := Scalar.addi v116 c1_i32_74
  let c3_i32 : BitVec 32 := 3#32
  let v118 : BitVec 1 := Scalar.cmpi .sle v117 c3_i32
  let v133 : BitVec 32 := Scalar.extui v118
  let c0_i32_84 : BitVec 32 := 0#32
  let v134 : BitVec 1 := Scalar.cmpi .ne v133 c0_i32_84
  v134

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_285 : BitVec 32 := 4096#32
  let v467 : BitVec 32 := Scalar.muli v122 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_295 : BitVec 32 := 0#32
  ![v469.toNat, 0]
def k0_off34 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c512_i32_286 : BitVec 32 := 512#32
  let v470 : BitVec 32 := Scalar.addi v35 c512_i32_286
  let c0_i32_296 : BitVec 32 := 0#32
  ![v470.toNat, 0]
def k0_dev28 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v484 : BitVec 32 := Scalar.muli v2 c16_i32_303
  let v485 : BitVec 32 := Scalar.addi c0_i32_304 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v486 : BitVec 32 := Scalar.muli v22 c4_i32_305
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v488 : BitVec 32 := Scalar.muli v8 c1_i32_306
  let v489 : BitVec 32 := Scalar.addi v487 v488
  v489.toNat
def k0_dev29 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v499 : BitVec 32 := Scalar.muli v9 c16_i32_315
  let v500 : BitVec 32 := Scalar.addi c0_i32_316 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v501 : BitVec 32 := Scalar.muli v5 c4_i32_317
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v503 : BitVec 32 := Scalar.muli v8 c1_i32_318
  let v504 : BitVec 32 := Scalar.addi v502 v503
  v504.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v511 : BitVec 32 := Scalar.extui v71
  let c0_i32_321 : BitVec 32 := 0#32
  let v512 : BitVec 1 := Scalar.cmpi .ne v511 c0_i32_321
  v512

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_322 : BitVec 32 := 4096#32
  let v513 : BitVec 32 := Scalar.muli v122 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c512_i32_323 : BitVec 32 := 512#32
  let v515 : BitVec 32 := Scalar.addi v514 c512_i32_323
  let c0_i32_332 : BitVec 32 := 0#32
  ![v515.toNat, 0]
def k0_dev30 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v516 : BitVec 32 := Scalar.muli v2 c16_i32_328
  let v517 : BitVec 32 := Scalar.addi c0_i32_329 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v518 : BitVec 32 := Scalar.muli v5 c4_i32_330
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_331 : BitVec 32 := 1#32
  let v520 : BitVec 32 := Scalar.muli v69 c1_i32_331
  let v521 : BitVec 32 := Scalar.addi v519 v520
  v521.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v115 : BitVec 1 := Scalar.cmpi .sge v8 c1_i32_72
  let v135 : BitVec 32 := Scalar.extui v115
  let c0_i32_85 : BitVec 32 := 0#32
  let v136 : BitVec 1 := Scalar.cmpi .ne v135 c0_i32_85
  v136

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_285 : BitVec 32 := 4096#32
  let v467 : BitVec 32 := Scalar.muli v120 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_295 : BitVec 32 := 0#32
  ![v469.toNat, 0]
def k0_off37 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c768_i32_286 : BitVec 32 := 768#32
  let v470 : BitVec 32 := Scalar.addi v35 c768_i32_286
  let c0_i32_296 : BitVec 32 := 0#32
  ![v470.toNat, 0]
def k0_dev31 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v484 : BitVec 32 := Scalar.muli v2 c16_i32_303
  let v485 : BitVec 32 := Scalar.addi c0_i32_304 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v486 : BitVec 32 := Scalar.muli v22 c4_i32_305
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v488 : BitVec 32 := Scalar.muli v8 c1_i32_306
  let v489 : BitVec 32 := Scalar.addi v487 v488
  v489.toNat
def k0_dev32 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v499 : BitVec 32 := Scalar.muli v9 c16_i32_315
  let v500 : BitVec 32 := Scalar.addi c0_i32_316 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v501 : BitVec 32 := Scalar.muli v5 c4_i32_317
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v503 : BitVec 32 := Scalar.muli v8 c1_i32_318
  let v504 : BitVec 32 := Scalar.addi v502 v503
  v504.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v511 : BitVec 32 := Scalar.extui v70
  let c0_i32_321 : BitVec 32 := 0#32
  let v512 : BitVec 1 := Scalar.cmpi .ne v511 c0_i32_321
  v512

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v119 : BitVec 32 := Scalar.subi v8 c1_i32_75
  let c0_i32_76 : BitVec 32 := 0#32
  let v120 : BitVec 32 := Scalar.subi v119 c0_i32_76
  let c4096_i32_322 : BitVec 32 := 4096#32
  let v513 : BitVec 32 := Scalar.muli v120 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c768_i32_323 : BitVec 32 := 768#32
  let v515 : BitVec 32 := Scalar.addi v514 c768_i32_323
  let c0_i32_332 : BitVec 32 := 0#32
  ![v515.toNat, 0]
def k0_dev33 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v516 : BitVec 32 := Scalar.muli v2 c16_i32_328
  let v517 : BitVec 32 := Scalar.addi c0_i32_329 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v518 : BitVec 32 := Scalar.muli v5 c4_i32_330
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_331 : BitVec 32 := 1#32
  let v520 : BitVec 32 := Scalar.muli v57 c1_i32_331
  let v521 : BitVec 32 := Scalar.addi v519 v520
  v521.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let v116 : BitVec 32 := Scalar.addi v8 c0_i32_73
  let c1_i32_74 : BitVec 32 := 1#32
  let v117 : BitVec 32 := Scalar.addi v116 c1_i32_74
  let c3_i32 : BitVec 32 := 3#32
  let v118 : BitVec 1 := Scalar.cmpi .sle v117 c3_i32
  let v137 : BitVec 32 := Scalar.extui v118
  let c0_i32_86 : BitVec 32 := 0#32
  let v138 : BitVec 1 := Scalar.cmpi .ne v137 c0_i32_86
  v138

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_285 : BitVec 32 := 4096#32
  let v467 : BitVec 32 := Scalar.muli v122 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_295 : BitVec 32 := 0#32
  ![v469.toNat, 0]
def k0_off40 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c768_i32_286 : BitVec 32 := 768#32
  let v470 : BitVec 32 := Scalar.addi v35 c768_i32_286
  let c0_i32_296 : BitVec 32 := 0#32
  ![v470.toNat, 0]
def k0_dev34 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v484 : BitVec 32 := Scalar.muli v2 c16_i32_303
  let v485 : BitVec 32 := Scalar.addi c0_i32_304 v484
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v486 : BitVec 32 := Scalar.muli v22 c4_i32_305
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v488 : BitVec 32 := Scalar.muli v8 c1_i32_306
  let v489 : BitVec 32 := Scalar.addi v487 v488
  v489.toNat
def k0_dev35 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v499 : BitVec 32 := Scalar.muli v9 c16_i32_315
  let v500 : BitVec 32 := Scalar.addi c0_i32_316 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v501 : BitVec 32 := Scalar.muli v5 c4_i32_317
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v503 : BitVec 32 := Scalar.muli v8 c1_i32_318
  let v504 : BitVec 32 := Scalar.addi v502 v503
  v504.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v511 : BitVec 32 := Scalar.extui v71
  let c0_i32_321 : BitVec 32 := 0#32
  let v512 : BitVec 1 := Scalar.cmpi .ne v511 c0_i32_321
  v512

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v121 : BitVec 32 := Scalar.addi v8 c1_i32_77
  let c0_i32_78 : BitVec 32 := 0#32
  let v122 : BitVec 32 := Scalar.addi v121 c0_i32_78
  let c4096_i32_322 : BitVec 32 := 4096#32
  let v513 : BitVec 32 := Scalar.muli v122 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v514 : BitVec 32 := Scalar.addi v513 v35
  let c768_i32_323 : BitVec 32 := 768#32
  let v515 : BitVec 32 := Scalar.addi v514 c768_i32_323
  let c0_i32_332 : BitVec 32 := 0#32
  ![v515.toNat, 0]
def k0_dev36 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v516 : BitVec 32 := Scalar.muli v2 c16_i32_328
  let v517 : BitVec 32 := Scalar.addi c0_i32_329 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v518 : BitVec 32 := Scalar.muli v5 c4_i32_330
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_331 : BitVec 32 := 1#32
  let v520 : BitVec 32 := Scalar.muli v69 c1_i32_331
  let v521 : BitVec 32 := Scalar.addi v519 v520
  v521.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v139 : BitVec 1 := Scalar.cmpi .sge v8 c2_i32_87
  let v147 : BitVec 32 := Scalar.extui v139
  let c0_i32_95 : BitVec 32 := 0#32
  let v148 : BitVec 1 := Scalar.cmpi .ne v147 c0_i32_95
  v148

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_285 : BitVec 32 := 4096#32
  let v467 : BitVec 32 := Scalar.muli v144 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_295 : BitVec 32 := 0#32
  ![v469.toNat, 0]
def k0_dev37 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v483 : BitVec 32 := Scalar.muli v2 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v485 : BitVec 32 := Scalar.muli v22 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_dev38 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v498 : BitVec 32 := Scalar.muli v9 c16_i32_315
  let v499 : BitVec 32 := Scalar.addi c0_i32_316 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v500 : BitVec 32 := Scalar.muli v5 c4_i32_317
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v502 : BitVec 32 := Scalar.muli v8 c1_i32_318
  let v503 : BitVec 32 := Scalar.addi v501 v502
  v503.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v510 : BitVec 32 := Scalar.extui v70
  let c0_i32_321 : BitVec 32 := 0#32
  let v511 : BitVec 1 := Scalar.cmpi .ne v510 c0_i32_321
  v511

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_322 : BitVec 32 := 4096#32
  let v512 : BitVec 32 := Scalar.muli v144 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c0_i32_323 : BitVec 32 := 0#32
  let v514 : BitVec 32 := Scalar.addi v513 c0_i32_323
  let c0_i32_332 : BitVec 32 := 0#32
  ![v514.toNat, 0]
def k0_dev39 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v515 : BitVec 32 := Scalar.muli v2 c16_i32_328
  let v516 : BitVec 32 := Scalar.addi c0_i32_329 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v517 : BitVec 32 := Scalar.muli v5 c4_i32_330
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_331 : BitVec 32 := 1#32
  let v519 : BitVec 32 := Scalar.muli v57 c1_i32_331
  let v520 : BitVec 32 := Scalar.addi v518 v519
  v520.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v140 : BitVec 32 := Scalar.addi v8 c1_i32_88
  let c1_i32_89 : BitVec 32 := 1#32
  let v141 : BitVec 32 := Scalar.addi v140 c1_i32_89
  let c3_i32_90 : BitVec 32 := 3#32
  let v142 : BitVec 1 := Scalar.cmpi .sle v141 c3_i32_90
  let v149 : BitVec 32 := Scalar.extui v142
  let c0_i32_96 : BitVec 32 := 0#32
  let v150 : BitVec 1 := Scalar.cmpi .ne v149 c0_i32_96
  v150

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_285 : BitVec 32 := 4096#32
  let v467 : BitVec 32 := Scalar.muli v146 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_295 : BitVec 32 := 0#32
  ![v469.toNat, 0]
def k0_dev40 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v483 : BitVec 32 := Scalar.muli v2 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v485 : BitVec 32 := Scalar.muli v22 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_dev41 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v498 : BitVec 32 := Scalar.muli v9 c16_i32_315
  let v499 : BitVec 32 := Scalar.addi c0_i32_316 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v500 : BitVec 32 := Scalar.muli v5 c4_i32_317
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v502 : BitVec 32 := Scalar.muli v8 c1_i32_318
  let v503 : BitVec 32 := Scalar.addi v501 v502
  v503.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v510 : BitVec 32 := Scalar.extui v71
  let c0_i32_321 : BitVec 32 := 0#32
  let v511 : BitVec 1 := Scalar.cmpi .ne v510 c0_i32_321
  v511

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_322 : BitVec 32 := 4096#32
  let v512 : BitVec 32 := Scalar.muli v146 c4096_i32_322
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c0_i32_323 : BitVec 32 := 0#32
  let v514 : BitVec 32 := Scalar.addi v513 c0_i32_323
  let c0_i32_332 : BitVec 32 := 0#32
  ![v514.toNat, 0]
def k0_dev42 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v515 : BitVec 32 := Scalar.muli v2 c16_i32_328
  let v516 : BitVec 32 := Scalar.addi c0_i32_329 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v517 : BitVec 32 := Scalar.muli v5 c4_i32_330
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_331 : BitVec 32 := 1#32
  let v519 : BitVec 32 := Scalar.muli v69 c1_i32_331
  let v520 : BitVec 32 := Scalar.addi v518 v519
  v520.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v139 : BitVec 1 := Scalar.cmpi .sge v8 c2_i32_87
  let v151 : BitVec 32 := Scalar.extui v139
  let c0_i32_97 : BitVec 32 := 0#32
  let v152 : BitVec 1 := Scalar.cmpi .ne v151 c0_i32_97
  v152

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_285 : BitVec 32 := 4096#32
  let v467 : BitVec 32 := Scalar.muli v144 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_294 : BitVec 32 := 0#32
  ![v469.toNat, 0]
def k0_dev43 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev44 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v510 : BitVec 32 := Scalar.extui v70
  let c0_i32_320 : BitVec 32 := 0#32
  let v511 : BitVec 1 := Scalar.cmpi .ne v510 c0_i32_320
  v511

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_321 : BitVec 32 := 4096#32
  let v512 : BitVec 32 := Scalar.muli v144 c4096_i32_321
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c256_i32_322 : BitVec 32 := 256#32
  let v514 : BitVec 32 := Scalar.addi v513 c256_i32_322
  let c0_i32_331 : BitVec 32 := 0#32
  ![v514.toNat, 0]
def k0_dev45 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v515 : BitVec 32 := Scalar.muli v2 c16_i32_327
  let v516 : BitVec 32 := Scalar.addi c0_i32_328 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v517 : BitVec 32 := Scalar.muli v5 c4_i32_329
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_330 : BitVec 32 := 1#32
  let v519 : BitVec 32 := Scalar.muli v57 c1_i32_330
  let v520 : BitVec 32 := Scalar.addi v518 v519
  v520.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v140 : BitVec 32 := Scalar.addi v8 c1_i32_88
  let c1_i32_89 : BitVec 32 := 1#32
  let v141 : BitVec 32 := Scalar.addi v140 c1_i32_89
  let c3_i32_90 : BitVec 32 := 3#32
  let v142 : BitVec 1 := Scalar.cmpi .sle v141 c3_i32_90
  let v153 : BitVec 32 := Scalar.extui v142
  let c0_i32_98 : BitVec 32 := 0#32
  let v154 : BitVec 1 := Scalar.cmpi .ne v153 c0_i32_98
  v154

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_285 : BitVec 32 := 4096#32
  let v467 : BitVec 32 := Scalar.muli v146 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_294 : BitVec 32 := 0#32
  ![v469.toNat, 0]
def k0_dev46 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev47 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v510 : BitVec 32 := Scalar.extui v71
  let c0_i32_320 : BitVec 32 := 0#32
  let v511 : BitVec 1 := Scalar.cmpi .ne v510 c0_i32_320
  v511

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_321 : BitVec 32 := 4096#32
  let v512 : BitVec 32 := Scalar.muli v146 c4096_i32_321
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c256_i32_322 : BitVec 32 := 256#32
  let v514 : BitVec 32 := Scalar.addi v513 c256_i32_322
  let c0_i32_331 : BitVec 32 := 0#32
  ![v514.toNat, 0]
def k0_dev48 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v515 : BitVec 32 := Scalar.muli v2 c16_i32_327
  let v516 : BitVec 32 := Scalar.addi c0_i32_328 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v517 : BitVec 32 := Scalar.muli v5 c4_i32_329
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_330 : BitVec 32 := 1#32
  let v519 : BitVec 32 := Scalar.muli v69 c1_i32_330
  let v520 : BitVec 32 := Scalar.addi v518 v519
  v520.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v139 : BitVec 1 := Scalar.cmpi .sge v8 c2_i32_87
  let v155 : BitVec 32 := Scalar.extui v139
  let c0_i32_99 : BitVec 32 := 0#32
  let v156 : BitVec 1 := Scalar.cmpi .ne v155 c0_i32_99
  v156

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_285 : BitVec 32 := 4096#32
  let v467 : BitVec 32 := Scalar.muli v144 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_294 : BitVec 32 := 0#32
  ![v469.toNat, 0]
def k0_dev49 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev50 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v510 : BitVec 32 := Scalar.extui v70
  let c0_i32_320 : BitVec 32 := 0#32
  let v511 : BitVec 1 := Scalar.cmpi .ne v510 c0_i32_320
  v511

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_321 : BitVec 32 := 4096#32
  let v512 : BitVec 32 := Scalar.muli v144 c4096_i32_321
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c512_i32_322 : BitVec 32 := 512#32
  let v514 : BitVec 32 := Scalar.addi v513 c512_i32_322
  let c0_i32_331 : BitVec 32 := 0#32
  ![v514.toNat, 0]
def k0_dev51 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v515 : BitVec 32 := Scalar.muli v2 c16_i32_327
  let v516 : BitVec 32 := Scalar.addi c0_i32_328 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v517 : BitVec 32 := Scalar.muli v5 c4_i32_329
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_330 : BitVec 32 := 1#32
  let v519 : BitVec 32 := Scalar.muli v57 c1_i32_330
  let v520 : BitVec 32 := Scalar.addi v518 v519
  v520.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v140 : BitVec 32 := Scalar.addi v8 c1_i32_88
  let c1_i32_89 : BitVec 32 := 1#32
  let v141 : BitVec 32 := Scalar.addi v140 c1_i32_89
  let c3_i32_90 : BitVec 32 := 3#32
  let v142 : BitVec 1 := Scalar.cmpi .sle v141 c3_i32_90
  let v157 : BitVec 32 := Scalar.extui v142
  let c0_i32_100 : BitVec 32 := 0#32
  let v158 : BitVec 1 := Scalar.cmpi .ne v157 c0_i32_100
  v158

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_285 : BitVec 32 := 4096#32
  let v467 : BitVec 32 := Scalar.muli v146 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_294 : BitVec 32 := 0#32
  ![v469.toNat, 0]
def k0_dev52 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev53 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v510 : BitVec 32 := Scalar.extui v71
  let c0_i32_320 : BitVec 32 := 0#32
  let v511 : BitVec 1 := Scalar.cmpi .ne v510 c0_i32_320
  v511

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_321 : BitVec 32 := 4096#32
  let v512 : BitVec 32 := Scalar.muli v146 c4096_i32_321
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c512_i32_322 : BitVec 32 := 512#32
  let v514 : BitVec 32 := Scalar.addi v513 c512_i32_322
  let c0_i32_331 : BitVec 32 := 0#32
  ![v514.toNat, 0]
def k0_dev54 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v515 : BitVec 32 := Scalar.muli v2 c16_i32_327
  let v516 : BitVec 32 := Scalar.addi c0_i32_328 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v517 : BitVec 32 := Scalar.muli v5 c4_i32_329
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_330 : BitVec 32 := 1#32
  let v519 : BitVec 32 := Scalar.muli v69 c1_i32_330
  let v520 : BitVec 32 := Scalar.addi v518 v519
  v520.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v139 : BitVec 1 := Scalar.cmpi .sge v8 c2_i32_87
  let v159 : BitVec 32 := Scalar.extui v139
  let c0_i32_101 : BitVec 32 := 0#32
  let v160 : BitVec 1 := Scalar.cmpi .ne v159 c0_i32_101
  v160

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_285 : BitVec 32 := 4096#32
  let v467 : BitVec 32 := Scalar.muli v144 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_294 : BitVec 32 := 0#32
  ![v469.toNat, 0]
def k0_dev55 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev56 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let v510 : BitVec 32 := Scalar.extui v70
  let c0_i32_320 : BitVec 32 := 0#32
  let v511 : BitVec 1 := Scalar.cmpi .ne v510 c0_i32_320
  v511

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v143 : BitVec 32 := Scalar.subi v8 c1_i32_91
  let c1_i32_92 : BitVec 32 := 1#32
  let v144 : BitVec 32 := Scalar.subi v143 c1_i32_92
  let c4096_i32_321 : BitVec 32 := 4096#32
  let v512 : BitVec 32 := Scalar.muli v144 c4096_i32_321
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c768_i32_322 : BitVec 32 := 768#32
  let v514 : BitVec 32 := Scalar.addi v513 c768_i32_322
  let c0_i32_331 : BitVec 32 := 0#32
  ![v514.toNat, 0]
def k0_dev57 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v515 : BitVec 32 := Scalar.muli v2 c16_i32_327
  let v516 : BitVec 32 := Scalar.addi c0_i32_328 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v517 : BitVec 32 := Scalar.muli v5 c4_i32_329
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v47 : BitVec 32 := Scalar.addi v8 c1_i32_25
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_330 : BitVec 32 := 1#32
  let v519 : BitVec 32 := Scalar.muli v57 c1_i32_330
  let v520 : BitVec 32 := Scalar.addi v518 v519
  v520.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v140 : BitVec 32 := Scalar.addi v8 c1_i32_88
  let c1_i32_89 : BitVec 32 := 1#32
  let v141 : BitVec 32 := Scalar.addi v140 c1_i32_89
  let c3_i32_90 : BitVec 32 := 3#32
  let v142 : BitVec 1 := Scalar.cmpi .sle v141 c3_i32_90
  let v161 : BitVec 32 := Scalar.extui v142
  let c0_i32_102 : BitVec 32 := 0#32
  let v162 : BitVec 1 := Scalar.cmpi .ne v161 c0_i32_102
  v162

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_285 : BitVec 32 := 4096#32
  let v467 : BitVec 32 := Scalar.muli v146 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_294 : BitVec 32 := 0#32
  ![v469.toNat, 0]
def k0_dev58 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev59 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let v510 : BitVec 32 := Scalar.extui v71
  let c0_i32_320 : BitVec 32 := 0#32
  let v511 : BitVec 1 := Scalar.cmpi .ne v510 c0_i32_320
  v511

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.addi v8 c1_i32_93
  let c1_i32_94 : BitVec 32 := 1#32
  let v146 : BitVec 32 := Scalar.addi v145 c1_i32_94
  let c4096_i32_321 : BitVec 32 := 4096#32
  let v512 : BitVec 32 := Scalar.muli v146 c4096_i32_321
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v513 : BitVec 32 := Scalar.addi v512 v35
  let c768_i32_322 : BitVec 32 := 768#32
  let v514 : BitVec 32 := Scalar.addi v513 c768_i32_322
  let c0_i32_331 : BitVec 32 := 0#32
  ![v514.toNat, 0]
def k0_dev60 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v515 : BitVec 32 := Scalar.muli v2 c16_i32_327
  let v516 : BitVec 32 := Scalar.addi c0_i32_328 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v517 : BitVec 32 := Scalar.muli v5 c4_i32_329
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_32 : BitVec 32 := 4#32
  let v58 : BitVec 32 := Scalar.addi v8 c4_i32_32
  let c1_i32_33 : BitVec 32 := 1#32
  let v59 : BitVec 32 := Scalar.subi v58 c1_i32_33
  let c4_i32_34 : BitVec 32 := 4#32
  let c0_i32_35 : BitVec 32 := 0#32
  let v60 : BitVec 1 := Scalar.cmpi .eq c4_i32_34 c0_i32_35
  let c1_i32_36 : BitVec 32 := 1#32
  let v61 : BitVec 32 := Scalar.select v60 c1_i32_36 c4_i32_34
  let v62 : BitVec 32 := Scalar.remsi v59 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let c1_i32_330 : BitVec 32 := 1#32
  let v519 : BitVec 32 := Scalar.muli v69 c1_i32_330
  let v520 : BitVec 32 := Scalar.addi v518 v519
  v520.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_103 : BitVec 32 := 3#32
  let v163 : BitVec 1 := Scalar.cmpi .sge v8 c3_i32_103
  let v171 : BitVec 32 := Scalar.extui v163
  let c0_i32_111 : BitVec 32 := 0#32
  let v172 : BitVec 1 := Scalar.cmpi .ne v171 c0_i32_111
  v172

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v167 : BitVec 32 := Scalar.subi v8 c1_i32_107
  let c2_i32_108 : BitVec 32 := 2#32
  let v168 : BitVec 32 := Scalar.subi v167 c2_i32_108
  let c4096_i32_285 : BitVec 32 := 4096#32
  let v467 : BitVec 32 := Scalar.muli v168 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_295 : BitVec 32 := 0#32
  ![v469.toNat, 0]
def k0_dev61 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v483 : BitVec 32 := Scalar.muli v2 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_305 : BitVec 32 := 4#32
  let v485 : BitVec 32 := Scalar.muli v22 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_dev62 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v498 : BitVec 32 := Scalar.muli v9 c16_i32_315
  let v499 : BitVec 32 := Scalar.addi c0_i32_316 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v500 : BitVec 32 := Scalar.muli v5 c4_i32_317
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v502 : BitVec 32 := Scalar.muli v8 c1_i32_318
  let v503 : BitVec 32 := Scalar.addi v501 v502
  v503.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_104 : BitVec 32 := 2#32
  let v164 : BitVec 32 := Scalar.addi v8 c2_i32_104
  let c1_i32_105 : BitVec 32 := 1#32
  let v165 : BitVec 32 := Scalar.addi v164 c1_i32_105
  let c3_i32_106 : BitVec 32 := 3#32
  let v166 : BitVec 1 := Scalar.cmpi .sle v165 c3_i32_106
  let v173 : BitVec 32 := Scalar.extui v166
  let c0_i32_112 : BitVec 32 := 0#32
  let v174 : BitVec 1 := Scalar.cmpi .ne v173 c0_i32_112
  v174

def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v169 : BitVec 32 := Scalar.addi v8 c1_i32_109
  let c2_i32_110 : BitVec 32 := 2#32
  let v170 : BitVec 32 := Scalar.addi v169 c2_i32_110
  let c4096_i32_285 : BitVec 32 := 4096#32
  let v467 : BitVec 32 := Scalar.muli v170 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c0_i32_286 : BitVec 32 := 0#32
  let v469 : BitVec 32 := Scalar.addi v468 c0_i32_286
  let c0_i32_295 : BitVec 32 := 0#32
  ![v469.toNat, 0]
def k0_dev63 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev64 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_103 : BitVec 32 := 3#32
  let v163 : BitVec 1 := Scalar.cmpi .sge v8 c3_i32_103
  let v175 : BitVec 32 := Scalar.extui v163
  let c0_i32_113 : BitVec 32 := 0#32
  let v176 : BitVec 1 := Scalar.cmpi .ne v175 c0_i32_113
  v176

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v167 : BitVec 32 := Scalar.subi v8 c1_i32_107
  let c2_i32_108 : BitVec 32 := 2#32
  let v168 : BitVec 32 := Scalar.subi v167 c2_i32_108
  let c4096_i32_285 : BitVec 32 := 4096#32
  let v467 : BitVec 32 := Scalar.muli v168 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_294 : BitVec 32 := 0#32
  ![v469.toNat, 0]
def k0_dev65 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev66 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_104 : BitVec 32 := 2#32
  let v164 : BitVec 32 := Scalar.addi v8 c2_i32_104
  let c1_i32_105 : BitVec 32 := 1#32
  let v165 : BitVec 32 := Scalar.addi v164 c1_i32_105
  let c3_i32_106 : BitVec 32 := 3#32
  let v166 : BitVec 1 := Scalar.cmpi .sle v165 c3_i32_106
  let v177 : BitVec 32 := Scalar.extui v166
  let c0_i32_114 : BitVec 32 := 0#32
  let v178 : BitVec 1 := Scalar.cmpi .ne v177 c0_i32_114
  v178

def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v169 : BitVec 32 := Scalar.addi v8 c1_i32_109
  let c2_i32_110 : BitVec 32 := 2#32
  let v170 : BitVec 32 := Scalar.addi v169 c2_i32_110
  let c4096_i32_285 : BitVec 32 := 4096#32
  let v467 : BitVec 32 := Scalar.muli v170 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c256_i32 : BitVec 32 := 256#32
  let v469 : BitVec 32 := Scalar.addi v468 c256_i32
  let c0_i32_294 : BitVec 32 := 0#32
  ![v469.toNat, 0]
def k0_dev67 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v483 : BitVec 32 := Scalar.muli v2 c16_i32_301
  let v484 : BitVec 32 := Scalar.addi c0_i32_302 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_303 : BitVec 32 := 4#32
  let v485 : BitVec 32 := Scalar.muli v22 c4_i32_303
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v487 : BitVec 32 := Scalar.muli v8 c1_i32_304
  let v488 : BitVec 32 := Scalar.addi v486 v487
  v488.toNat
def k0_dev68 (d0 : Dev nD) : Nat :=
  let c0_i32_314 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_313 : BitVec 32 := 16#32
  let v498 : BitVec 32 := Scalar.muli v9 c16_i32_313
  let v499 : BitVec 32 := Scalar.addi c0_i32_314 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_315 : BitVec 32 := 4#32
  let v500 : BitVec 32 := Scalar.muli v5 c4_i32_315
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v502 : BitVec 32 := Scalar.muli v8 c1_i32_316
  let v503 : BitVec 32 := Scalar.addi v501 v502
  v503.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_103 : BitVec 32 := 3#32
  let v163 : BitVec 1 := Scalar.cmpi .sge v8 c3_i32_103
  let v179 : BitVec 32 := Scalar.extui v163
  let c0_i32_115 : BitVec 32 := 0#32
  let v180 : BitVec 1 := Scalar.cmpi .ne v179 c0_i32_115
  v180

def k0_off62 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v167 : BitVec 32 := Scalar.subi v8 c1_i32_107
  let c2_i32_108 : BitVec 32 := 2#32
  let v168 : BitVec 32 := Scalar.subi v167 c2_i32_108
  let c4096_i32_285 : BitVec 32 := 4096#32
  let v467 : BitVec 32 := Scalar.muli v168 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_294 : BitVec 32 := 0#32
  ![v469.toNat, 0]
def k0_dev69 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev70 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_104 : BitVec 32 := 2#32
  let v164 : BitVec 32 := Scalar.addi v8 c2_i32_104
  let c1_i32_105 : BitVec 32 := 1#32
  let v165 : BitVec 32 := Scalar.addi v164 c1_i32_105
  let c3_i32_106 : BitVec 32 := 3#32
  let v166 : BitVec 1 := Scalar.cmpi .sle v165 c3_i32_106
  let v181 : BitVec 32 := Scalar.extui v166
  let c0_i32_116 : BitVec 32 := 0#32
  let v182 : BitVec 1 := Scalar.cmpi .ne v181 c0_i32_116
  v182

def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v169 : BitVec 32 := Scalar.addi v8 c1_i32_109
  let c2_i32_110 : BitVec 32 := 2#32
  let v170 : BitVec 32 := Scalar.addi v169 c2_i32_110
  let c4096_i32_285 : BitVec 32 := 4096#32
  let v467 : BitVec 32 := Scalar.muli v170 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c512_i32 : BitVec 32 := 512#32
  let v469 : BitVec 32 := Scalar.addi v468 c512_i32
  let c0_i32_294 : BitVec 32 := 0#32
  ![v469.toNat, 0]
def k0_dev71 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v483 : BitVec 32 := Scalar.muli v2 c16_i32_301
  let v484 : BitVec 32 := Scalar.addi c0_i32_302 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_303 : BitVec 32 := 4#32
  let v485 : BitVec 32 := Scalar.muli v22 c4_i32_303
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v487 : BitVec 32 := Scalar.muli v8 c1_i32_304
  let v488 : BitVec 32 := Scalar.addi v486 v487
  v488.toNat
def k0_dev72 (d0 : Dev nD) : Nat :=
  let c0_i32_314 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_313 : BitVec 32 := 16#32
  let v498 : BitVec 32 := Scalar.muli v9 c16_i32_313
  let v499 : BitVec 32 := Scalar.addi c0_i32_314 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_315 : BitVec 32 := 4#32
  let v500 : BitVec 32 := Scalar.muli v5 c4_i32_315
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v502 : BitVec 32 := Scalar.muli v8 c1_i32_316
  let v503 : BitVec 32 := Scalar.addi v501 v502
  v503.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_103 : BitVec 32 := 3#32
  let v163 : BitVec 1 := Scalar.cmpi .sge v8 c3_i32_103
  let v183 : BitVec 32 := Scalar.extui v163
  let c0_i32_117 : BitVec 32 := 0#32
  let v184 : BitVec 1 := Scalar.cmpi .ne v183 c0_i32_117
  v184

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v167 : BitVec 32 := Scalar.subi v8 c1_i32_107
  let c2_i32_108 : BitVec 32 := 2#32
  let v168 : BitVec 32 := Scalar.subi v167 c2_i32_108
  let c4096_i32_285 : BitVec 32 := 4096#32
  let v467 : BitVec 32 := Scalar.muli v168 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_294 : BitVec 32 := 0#32
  ![v469.toNat, 0]
def k0_dev73 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_dev74 (d0 : Dev nD) : Nat :=
  let c0_i32_315 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_314 : BitVec 32 := 16#32
  let v498 : BitVec 32 := Scalar.muli v9 c16_i32_314
  let v499 : BitVec 32 := Scalar.addi c0_i32_315 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_316 : BitVec 32 := 4#32
  let v500 : BitVec 32 := Scalar.muli v5 c4_i32_316
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v502 : BitVec 32 := Scalar.muli v8 c1_i32_317
  let v503 : BitVec 32 := Scalar.addi v501 v502
  v503.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_104 : BitVec 32 := 2#32
  let v164 : BitVec 32 := Scalar.addi v8 c2_i32_104
  let c1_i32_105 : BitVec 32 := 1#32
  let v165 : BitVec 32 := Scalar.addi v164 c1_i32_105
  let c3_i32_106 : BitVec 32 := 3#32
  let v166 : BitVec 1 := Scalar.cmpi .sle v165 c3_i32_106
  let v185 : BitVec 32 := Scalar.extui v166
  let c0_i32_118 : BitVec 32 := 0#32
  let v186 : BitVec 1 := Scalar.cmpi .ne v185 c0_i32_118
  v186

def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v169 : BitVec 32 := Scalar.addi v8 c1_i32_109
  let c2_i32_110 : BitVec 32 := 2#32
  let v170 : BitVec 32 := Scalar.addi v169 c2_i32_110
  let c4096_i32_285 : BitVec 32 := 4096#32
  let v467 : BitVec 32 := Scalar.muli v170 c4096_i32_285
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v468 : BitVec 32 := Scalar.addi v467 v35
  let c768_i32 : BitVec 32 := 768#32
  let v469 : BitVec 32 := Scalar.addi v468 c768_i32
  let c0_i32_294 : BitVec 32 := 0#32
  ![v469.toNat, 0]
def k0_dev75 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v483 : BitVec 32 := Scalar.muli v2 c16_i32_301
  let v484 : BitVec 32 := Scalar.addi c0_i32_302 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_303 : BitVec 32 := 4#32
  let v485 : BitVec 32 := Scalar.muli v22 c4_i32_303
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v487 : BitVec 32 := Scalar.muli v8 c1_i32_304
  let v488 : BitVec 32 := Scalar.addi v486 v487
  v488.toNat
def k0_dev76 (d0 : Dev nD) : Nat :=
  let c0_i32_314 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_313 : BitVec 32 := 16#32
  let v498 : BitVec 32 := Scalar.muli v9 c16_i32_313
  let v499 : BitVec 32 := Scalar.addi c0_i32_314 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_315 : BitVec 32 := 4#32
  let v500 : BitVec 32 := Scalar.muli v5 c4_i32_315
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v502 : BitVec 32 := Scalar.muli v8 c1_i32_316
  let v503 : BitVec 32 := Scalar.addi v501 v502
  v503.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v195 : BitVec 32 := Scalar.extui v187
  let c0_i32_127 : BitVec 32 := 0#32
  let v196 : BitVec 1 := Scalar.cmpi .ne v195 c0_i32_127
  v196

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c0_i32_286 : BitVec 32 := 0#32
  let v469 : BitVec 32 := Scalar.addi v468 c0_i32_286
  let c0_i32_295 : BitVec 32 := 0#32
  ![v469.toNat, 0]
def k0_dev77 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v483 : BitVec 32 := Scalar.muli v9 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v485 : BitVec 32 := Scalar.muli v5 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v197 : BitVec 32 := Scalar.extui v190
  let c0_i32_128 : BitVec 32 := 0#32
  let v198 : BitVec 1 := Scalar.cmpi .ne v197 c0_i32_128
  v198

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c0_i32_286 : BitVec 32 := 0#32
  let v469 : BitVec 32 := Scalar.addi v468 c0_i32_286
  let c0_i32_295 : BitVec 32 := 0#32
  ![v469.toNat, 0]
def k0_dev78 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v483 : BitVec 32 := Scalar.muli v9 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v485 : BitVec 32 := Scalar.muli v5 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v199 : BitVec 32 := Scalar.extui v187
  let c0_i32_129 : BitVec 32 := 0#32
  let v200 : BitVec 1 := Scalar.cmpi .ne v199 c0_i32_129
  v200

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c0_i32_286 : BitVec 32 := 0#32
  let v469 : BitVec 32 := Scalar.addi v468 c0_i32_286
  let c0_i32_295 : BitVec 32 := 0#32
  ![v469.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v201 : BitVec 32 := Scalar.extui v190
  let c0_i32_130 : BitVec 32 := 0#32
  let v202 : BitVec 1 := Scalar.cmpi .ne v201 c0_i32_130
  v202

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c0_i32_286 : BitVec 32 := 0#32
  let v469 : BitVec 32 := Scalar.addi v468 c0_i32_286
  let c0_i32_295 : BitVec 32 := 0#32
  ![v469.toNat, 0]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v203 : BitVec 32 := Scalar.extui v187
  let c0_i32_131 : BitVec 32 := 0#32
  let v204 : BitVec 1 := Scalar.cmpi .ne v203 c0_i32_131
  v204

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c256_i32 : BitVec 32 := 256#32
  let v469 : BitVec 32 := Scalar.addi v468 c256_i32
  let c0_i32_294 : BitVec 32 := 0#32
  ![v469.toNat, 0]
def k0_dev79 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v483 : BitVec 32 := Scalar.muli v9 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v485 : BitVec 32 := Scalar.muli v5 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v205 : BitVec 32 := Scalar.extui v190
  let c0_i32_132 : BitVec 32 := 0#32
  let v206 : BitVec 1 := Scalar.cmpi .ne v205 c0_i32_132
  v206

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c256_i32 : BitVec 32 := 256#32
  let v469 : BitVec 32 := Scalar.addi v468 c256_i32
  let c0_i32_294 : BitVec 32 := 0#32
  ![v469.toNat, 0]
def k0_dev80 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v483 : BitVec 32 := Scalar.muli v9 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v485 : BitVec 32 := Scalar.muli v5 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v207 : BitVec 32 := Scalar.extui v187
  let c0_i32_133 : BitVec 32 := 0#32
  let v208 : BitVec 1 := Scalar.cmpi .ne v207 c0_i32_133
  v208

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c256_i32 : BitVec 32 := 256#32
  let v469 : BitVec 32 := Scalar.addi v468 c256_i32
  let c0_i32_294 : BitVec 32 := 0#32
  ![v469.toNat, 0]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v209 : BitVec 32 := Scalar.extui v190
  let c0_i32_134 : BitVec 32 := 0#32
  let v210 : BitVec 1 := Scalar.cmpi .ne v209 c0_i32_134
  v210

def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c256_i32 : BitVec 32 := 256#32
  let v469 : BitVec 32 := Scalar.addi v468 c256_i32
  let c0_i32_294 : BitVec 32 := 0#32
  ![v469.toNat, 0]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v211 : BitVec 32 := Scalar.extui v187
  let c0_i32_135 : BitVec 32 := 0#32
  let v212 : BitVec 1 := Scalar.cmpi .ne v211 c0_i32_135
  v212

def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c512_i32 : BitVec 32 := 512#32
  let v469 : BitVec 32 := Scalar.addi v468 c512_i32
  let c0_i32_294 : BitVec 32 := 0#32
  ![v469.toNat, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v213 : BitVec 32 := Scalar.extui v190
  let c0_i32_136 : BitVec 32 := 0#32
  let v214 : BitVec 1 := Scalar.cmpi .ne v213 c0_i32_136
  v214

def k0_off75 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c512_i32 : BitVec 32 := 512#32
  let v469 : BitVec 32 := Scalar.addi v468 c512_i32
  let c0_i32_294 : BitVec 32 := 0#32
  ![v469.toNat, 0]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v215 : BitVec 32 := Scalar.extui v187
  let c0_i32_137 : BitVec 32 := 0#32
  let v216 : BitVec 1 := Scalar.cmpi .ne v215 c0_i32_137
  v216

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c512_i32 : BitVec 32 := 512#32
  let v469 : BitVec 32 := Scalar.addi v468 c512_i32
  let c0_i32_294 : BitVec 32 := 0#32
  ![v469.toNat, 0]
def k0_dev81 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v217 : BitVec 32 := Scalar.extui v190
  let c0_i32_138 : BitVec 32 := 0#32
  let v218 : BitVec 1 := Scalar.cmpi .ne v217 c0_i32_138
  v218

def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c512_i32 : BitVec 32 := 512#32
  let v469 : BitVec 32 := Scalar.addi v468 c512_i32
  let c0_i32_294 : BitVec 32 := 0#32
  ![v469.toNat, 0]
def k0_dev82 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v219 : BitVec 32 := Scalar.extui v187
  let c0_i32_139 : BitVec 32 := 0#32
  let v220 : BitVec 1 := Scalar.cmpi .ne v219 c0_i32_139
  v220

def k0_off78 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c768_i32 : BitVec 32 := 768#32
  let v469 : BitVec 32 := Scalar.addi v468 c768_i32
  let c0_i32_294 : BitVec 32 := 0#32
  ![v469.toNat, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v221 : BitVec 32 := Scalar.extui v190
  let c0_i32_140 : BitVec 32 := 0#32
  let v222 : BitVec 1 := Scalar.cmpi .ne v221 c0_i32_140
  v222

def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c768_i32 : BitVec 32 := 768#32
  let v469 : BitVec 32 := Scalar.addi v468 c768_i32
  let c0_i32_294 : BitVec 32 := 0#32
  ![v469.toNat, 0]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v187 : BitVec 1 := Scalar.cmpi .sge v8 c1_i32_119
  let v223 : BitVec 32 := Scalar.extui v187
  let c0_i32_141 : BitVec 32 := 0#32
  let v224 : BitVec 1 := Scalar.cmpi .ne v223 c0_i32_141
  v224

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v191 : BitVec 32 := Scalar.subi v8 c1_i32_123
  let c0_i32_124 : BitVec 32 := 0#32
  let v192 : BitVec 32 := Scalar.subi v191 c0_i32_124
  let c4096_i32_285 : BitVec 32 := 4096#32
  let v467 : BitVec 32 := Scalar.muli v192 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c768_i32 : BitVec 32 := 768#32
  let v469 : BitVec 32 := Scalar.addi v468 c768_i32
  let c0_i32_294 : BitVec 32 := 0#32
  ![v469.toNat, 0]
def k0_dev83 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_120 : BitVec 32 := 0#32
  let v188 : BitVec 32 := Scalar.addi v8 c0_i32_120
  let c1_i32_121 : BitVec 32 := 1#32
  let v189 : BitVec 32 := Scalar.addi v188 c1_i32_121
  let c3_i32_122 : BitVec 32 := 3#32
  let v190 : BitVec 1 := Scalar.cmpi .sle v189 c3_i32_122
  let v225 : BitVec 32 := Scalar.extui v190
  let c0_i32_142 : BitVec 32 := 0#32
  let v226 : BitVec 1 := Scalar.cmpi .ne v225 c0_i32_142
  v226

def k0_off81 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v193 : BitVec 32 := Scalar.addi v8 c1_i32_125
  let c0_i32_126 : BitVec 32 := 0#32
  let v194 : BitVec 32 := Scalar.addi v193 c0_i32_126
  let c4096_i32_285 : BitVec 32 := 4096#32
  let v467 : BitVec 32 := Scalar.muli v194 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c768_i32 : BitVec 32 := 768#32
  let v469 : BitVec 32 := Scalar.addi v468 c768_i32
  let c0_i32_294 : BitVec 32 := 0#32
  ![v469.toNat, 0]
def k0_dev84 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v235 : BitVec 32 := Scalar.extui v227
  let c0_i32_151 : BitVec 32 := 0#32
  let v236 : BitVec 1 := Scalar.cmpi .ne v235 c0_i32_151
  v236

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c0_i32_286 : BitVec 32 := 0#32
  let v469 : BitVec 32 := Scalar.addi v468 c0_i32_286
  let c0_i32_295 : BitVec 32 := 0#32
  ![v469.toNat, 0]
def k0_dev85 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v483 : BitVec 32 := Scalar.muli v9 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v485 : BitVec 32 := Scalar.muli v5 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v237 : BitVec 32 := Scalar.extui v230
  let c0_i32_152 : BitVec 32 := 0#32
  let v238 : BitVec 1 := Scalar.cmpi .ne v237 c0_i32_152
  v238

def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c0_i32_286 : BitVec 32 := 0#32
  let v469 : BitVec 32 := Scalar.addi v468 c0_i32_286
  let c0_i32_295 : BitVec 32 := 0#32
  ![v469.toNat, 0]
def k0_dev86 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v483 : BitVec 32 := Scalar.muli v9 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v485 : BitVec 32 := Scalar.muli v5 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v239 : BitVec 32 := Scalar.extui v227
  let c0_i32_153 : BitVec 32 := 0#32
  let v240 : BitVec 1 := Scalar.cmpi .ne v239 c0_i32_153
  v240

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c0_i32_286 : BitVec 32 := 0#32
  let v469 : BitVec 32 := Scalar.addi v468 c0_i32_286
  let c0_i32_295 : BitVec 32 := 0#32
  ![v469.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v241 : BitVec 32 := Scalar.extui v230
  let c0_i32_154 : BitVec 32 := 0#32
  let v242 : BitVec 1 := Scalar.cmpi .ne v241 c0_i32_154
  v242

def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c0_i32_286 : BitVec 32 := 0#32
  let v469 : BitVec 32 := Scalar.addi v468 c0_i32_286
  let c0_i32_295 : BitVec 32 := 0#32
  ![v469.toNat, 0]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v243 : BitVec 32 := Scalar.extui v227
  let c0_i32_155 : BitVec 32 := 0#32
  let v244 : BitVec 1 := Scalar.cmpi .ne v243 c0_i32_155
  v244

def k0_off86 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c256_i32 : BitVec 32 := 256#32
  let v469 : BitVec 32 := Scalar.addi v468 c256_i32
  let c0_i32_294 : BitVec 32 := 0#32
  ![v469.toNat, 0]
def k0_dev87 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v483 : BitVec 32 := Scalar.muli v9 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v485 : BitVec 32 := Scalar.muli v5 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v245 : BitVec 32 := Scalar.extui v230
  let c0_i32_156 : BitVec 32 := 0#32
  let v246 : BitVec 1 := Scalar.cmpi .ne v245 c0_i32_156
  v246

def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c256_i32 : BitVec 32 := 256#32
  let v469 : BitVec 32 := Scalar.addi v468 c256_i32
  let c0_i32_294 : BitVec 32 := 0#32
  ![v469.toNat, 0]
def k0_dev88 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v483 : BitVec 32 := Scalar.muli v9 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v485 : BitVec 32 := Scalar.muli v5 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v247 : BitVec 32 := Scalar.extui v227
  let c0_i32_157 : BitVec 32 := 0#32
  let v248 : BitVec 1 := Scalar.cmpi .ne v247 c0_i32_157
  v248

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c256_i32 : BitVec 32 := 256#32
  let v469 : BitVec 32 := Scalar.addi v468 c256_i32
  let c0_i32_294 : BitVec 32 := 0#32
  ![v469.toNat, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v249 : BitVec 32 := Scalar.extui v230
  let c0_i32_158 : BitVec 32 := 0#32
  let v250 : BitVec 1 := Scalar.cmpi .ne v249 c0_i32_158
  v250

def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c256_i32 : BitVec 32 := 256#32
  let v469 : BitVec 32 := Scalar.addi v468 c256_i32
  let c0_i32_294 : BitVec 32 := 0#32
  ![v469.toNat, 0]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v251 : BitVec 32 := Scalar.extui v227
  let c0_i32_159 : BitVec 32 := 0#32
  let v252 : BitVec 1 := Scalar.cmpi .ne v251 c0_i32_159
  v252

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c512_i32 : BitVec 32 := 512#32
  let v469 : BitVec 32 := Scalar.addi v468 c512_i32
  let c0_i32_294 : BitVec 32 := 0#32
  ![v469.toNat, 0]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v253 : BitVec 32 := Scalar.extui v230
  let c0_i32_160 : BitVec 32 := 0#32
  let v254 : BitVec 1 := Scalar.cmpi .ne v253 c0_i32_160
  v254

def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c512_i32 : BitVec 32 := 512#32
  let v469 : BitVec 32 := Scalar.addi v468 c512_i32
  let c0_i32_294 : BitVec 32 := 0#32
  ![v469.toNat, 0]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v255 : BitVec 32 := Scalar.extui v227
  let c0_i32_161 : BitVec 32 := 0#32
  let v256 : BitVec 1 := Scalar.cmpi .ne v255 c0_i32_161
  v256

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c512_i32 : BitVec 32 := 512#32
  let v469 : BitVec 32 := Scalar.addi v468 c512_i32
  let c0_i32_294 : BitVec 32 := 0#32
  ![v469.toNat, 0]
def k0_dev89 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v257 : BitVec 32 := Scalar.extui v230
  let c0_i32_162 : BitVec 32 := 0#32
  let v258 : BitVec 1 := Scalar.cmpi .ne v257 c0_i32_162
  v258

def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c512_i32 : BitVec 32 := 512#32
  let v469 : BitVec 32 := Scalar.addi v468 c512_i32
  let c0_i32_294 : BitVec 32 := 0#32
  ![v469.toNat, 0]
def k0_dev90 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v259 : BitVec 32 := Scalar.extui v227
  let c0_i32_163 : BitVec 32 := 0#32
  let v260 : BitVec 1 := Scalar.cmpi .ne v259 c0_i32_163
  v260

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c768_i32 : BitVec 32 := 768#32
  let v469 : BitVec 32 := Scalar.addi v468 c768_i32
  let c0_i32_294 : BitVec 32 := 0#32
  ![v469.toNat, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v261 : BitVec 32 := Scalar.extui v230
  let c0_i32_164 : BitVec 32 := 0#32
  let v262 : BitVec 1 := Scalar.cmpi .ne v261 c0_i32_164
  v262

def k0_off95 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c768_i32 : BitVec 32 := 768#32
  let v469 : BitVec 32 := Scalar.addi v468 c768_i32
  let c0_i32_294 : BitVec 32 := 0#32
  ![v469.toNat, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_143 : BitVec 32 := 2#32
  let v227 : BitVec 1 := Scalar.cmpi .sge v8 c2_i32_143
  let v263 : BitVec 32 := Scalar.extui v227
  let c0_i32_165 : BitVec 32 := 0#32
  let v264 : BitVec 1 := Scalar.cmpi .ne v263 c0_i32_165
  v264

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v231 : BitVec 32 := Scalar.subi v8 c1_i32_147
  let c1_i32_148 : BitVec 32 := 1#32
  let v232 : BitVec 32 := Scalar.subi v231 c1_i32_148
  let c4096_i32_285 : BitVec 32 := 4096#32
  let v467 : BitVec 32 := Scalar.muli v232 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c768_i32 : BitVec 32 := 768#32
  let v469 : BitVec 32 := Scalar.addi v468 c768_i32
  let c0_i32_294 : BitVec 32 := 0#32
  ![v469.toNat, 0]
def k0_dev91 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v228 : BitVec 32 := Scalar.addi v8 c1_i32_144
  let c1_i32_145 : BitVec 32 := 1#32
  let v229 : BitVec 32 := Scalar.addi v228 c1_i32_145
  let c3_i32_146 : BitVec 32 := 3#32
  let v230 : BitVec 1 := Scalar.cmpi .sle v229 c3_i32_146
  let v265 : BitVec 32 := Scalar.extui v230
  let c0_i32_166 : BitVec 32 := 0#32
  let v266 : BitVec 1 := Scalar.cmpi .ne v265 c0_i32_166
  v266

def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v233 : BitVec 32 := Scalar.addi v8 c1_i32_149
  let c1_i32_150 : BitVec 32 := 1#32
  let v234 : BitVec 32 := Scalar.addi v233 c1_i32_150
  let c4096_i32_285 : BitVec 32 := 4096#32
  let v467 : BitVec 32 := Scalar.muli v234 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c768_i32 : BitVec 32 := 768#32
  let v469 : BitVec 32 := Scalar.addi v468 c768_i32
  let c0_i32_294 : BitVec 32 := 0#32
  ![v469.toNat, 0]
def k0_dev92 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v275 : BitVec 32 := Scalar.extui v267
  let c0_i32_175 : BitVec 32 := 0#32
  let v276 : BitVec 1 := Scalar.cmpi .ne v275 c0_i32_175
  v276

def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c0_i32_286 : BitVec 32 := 0#32
  let v469 : BitVec 32 := Scalar.addi v468 c0_i32_286
  let c0_i32_295 : BitVec 32 := 0#32
  ![v469.toNat, 0]
def k0_dev93 (d0 : Dev nD) : Nat :=
  let c0_i32_304 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_303 : BitVec 32 := 16#32
  let v483 : BitVec 32 := Scalar.muli v9 c16_i32_303
  let v484 : BitVec 32 := Scalar.addi c0_i32_304 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v485 : BitVec 32 := Scalar.muli v5 c4_i32_305
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v487 : BitVec 32 := Scalar.muli v8 c1_i32_306
  let v488 : BitVec 32 := Scalar.addi v486 v487
  v488.toNat
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v277 : BitVec 32 := Scalar.extui v270
  let c0_i32_176 : BitVec 32 := 0#32
  let v278 : BitVec 1 := Scalar.cmpi .ne v277 c0_i32_176
  v278

def k0_off99 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c0_i32_286 : BitVec 32 := 0#32
  let v469 : BitVec 32 := Scalar.addi v468 c0_i32_286
  let c0_i32_294 : BitVec 32 := 0#32
  ![v469.toNat, 0]
def k0_dev94 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v483 : BitVec 32 := Scalar.muli v9 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v485 : BitVec 32 := Scalar.muli v5 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v279 : BitVec 32 := Scalar.extui v267
  let c0_i32_177 : BitVec 32 := 0#32
  let v280 : BitVec 1 := Scalar.cmpi .ne v279 c0_i32_177
  v280

def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c0_i32_286 : BitVec 32 := 0#32
  let v469 : BitVec 32 := Scalar.addi v468 c0_i32_286
  let c0_i32_295 : BitVec 32 := 0#32
  ![v469.toNat, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v281 : BitVec 32 := Scalar.extui v270
  let c0_i32_178 : BitVec 32 := 0#32
  let v282 : BitVec 1 := Scalar.cmpi .ne v281 c0_i32_178
  v282

def k0_off101 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c0_i32_286 : BitVec 32 := 0#32
  let v469 : BitVec 32 := Scalar.addi v468 c0_i32_286
  let c0_i32_294 : BitVec 32 := 0#32
  ![v469.toNat, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v283 : BitVec 32 := Scalar.extui v267
  let c0_i32_179 : BitVec 32 := 0#32
  let v284 : BitVec 1 := Scalar.cmpi .ne v283 c0_i32_179
  v284

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c256_i32 : BitVec 32 := 256#32
  let v469 : BitVec 32 := Scalar.addi v468 c256_i32
  let c0_i32_294 : BitVec 32 := 0#32
  ![v469.toNat, 0]
def k0_dev95 (d0 : Dev nD) : Nat :=
  let c0_i32_303 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_302 : BitVec 32 := 16#32
  let v483 : BitVec 32 := Scalar.muli v9 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v485 : BitVec 32 := Scalar.muli v5 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v285 : BitVec 32 := Scalar.extui v270
  let c0_i32_180 : BitVec 32 := 0#32
  let v286 : BitVec 1 := Scalar.cmpi .ne v285 c0_i32_180
  v286

def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c256_i32 : BitVec 32 := 256#32
  let v469 : BitVec 32 := Scalar.addi v468 c256_i32
  let c0_i32_293 : BitVec 32 := 0#32
  ![v469.toNat, 0]
def k0_dev96 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v483 : BitVec 32 := Scalar.muli v9 c16_i32_301
  let v484 : BitVec 32 := Scalar.addi c0_i32_302 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v485 : BitVec 32 := Scalar.muli v5 c4_i32_303
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v487 : BitVec 32 := Scalar.muli v8 c1_i32_304
  let v488 : BitVec 32 := Scalar.addi v486 v487
  v488.toNat
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v287 : BitVec 32 := Scalar.extui v267
  let c0_i32_181 : BitVec 32 := 0#32
  let v288 : BitVec 1 := Scalar.cmpi .ne v287 c0_i32_181
  v288

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c256_i32 : BitVec 32 := 256#32
  let v469 : BitVec 32 := Scalar.addi v468 c256_i32
  let c0_i32_294 : BitVec 32 := 0#32
  ![v469.toNat, 0]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v289 : BitVec 32 := Scalar.extui v270
  let c0_i32_182 : BitVec 32 := 0#32
  let v290 : BitVec 1 := Scalar.cmpi .ne v289 c0_i32_182
  v290

def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c256_i32 : BitVec 32 := 256#32
  let v469 : BitVec 32 := Scalar.addi v468 c256_i32
  let c0_i32_293 : BitVec 32 := 0#32
  ![v469.toNat, 0]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v291 : BitVec 32 := Scalar.extui v267
  let c0_i32_183 : BitVec 32 := 0#32
  let v292 : BitVec 1 := Scalar.cmpi .ne v291 c0_i32_183
  v292

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c512_i32 : BitVec 32 := 512#32
  let v469 : BitVec 32 := Scalar.addi v468 c512_i32
  let c0_i32_294 : BitVec 32 := 0#32
  ![v469.toNat, 0]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v293 : BitVec 32 := Scalar.extui v270
  let c0_i32_184 : BitVec 32 := 0#32
  let v294 : BitVec 1 := Scalar.cmpi .ne v293 c0_i32_184
  v294

def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c512_i32 : BitVec 32 := 512#32
  let v469 : BitVec 32 := Scalar.addi v468 c512_i32
  let c0_i32_293 : BitVec 32 := 0#32
  ![v469.toNat, 0]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v295 : BitVec 32 := Scalar.extui v267
  let c0_i32_185 : BitVec 32 := 0#32
  let v296 : BitVec 1 := Scalar.cmpi .ne v295 c0_i32_185
  v296

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c512_i32 : BitVec 32 := 512#32
  let v469 : BitVec 32 := Scalar.addi v468 c512_i32
  let c0_i32_294 : BitVec 32 := 0#32
  ![v469.toNat, 0]
def k0_dev97 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v297 : BitVec 32 := Scalar.extui v270
  let c0_i32_186 : BitVec 32 := 0#32
  let v298 : BitVec 1 := Scalar.cmpi .ne v297 c0_i32_186
  v298

def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c512_i32 : BitVec 32 := 512#32
  let v469 : BitVec 32 := Scalar.addi v468 c512_i32
  let c0_i32_293 : BitVec 32 := 0#32
  ![v469.toNat, 0]
def k0_dev98 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v483 : BitVec 32 := Scalar.muli v2 c16_i32_301
  let v484 : BitVec 32 := Scalar.addi c0_i32_302 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_303 : BitVec 32 := 4#32
  let v485 : BitVec 32 := Scalar.muli v22 c4_i32_303
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v487 : BitVec 32 := Scalar.muli v8 c1_i32_304
  let v488 : BitVec 32 := Scalar.addi v486 v487
  v488.toNat
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v299 : BitVec 32 := Scalar.extui v267
  let c0_i32_187 : BitVec 32 := 0#32
  let v300 : BitVec 1 := Scalar.cmpi .ne v299 c0_i32_187
  v300

def k0_off110 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c768_i32 : BitVec 32 := 768#32
  let v469 : BitVec 32 := Scalar.addi v468 c768_i32
  let c0_i32_294 : BitVec 32 := 0#32
  ![v469.toNat, 0]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v301 : BitVec 32 := Scalar.extui v270
  let c0_i32_188 : BitVec 32 := 0#32
  let v302 : BitVec 1 := Scalar.cmpi .ne v301 c0_i32_188
  v302

def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_17 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.muli c2_i32_17 v2
  let c1_i32_18 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v37 : BitVec 32 := Scalar.subi c1_i32_18 v32
  let v38 : BitVec 32 := Scalar.addi v36 v37
  let c1024_i32_19 : BitVec 32 := 1024#32
  let v39 : BitVec 32 := Scalar.muli v38 c1024_i32_19
  let v468 : BitVec 32 := Scalar.addi v467 v39
  let c768_i32 : BitVec 32 := 768#32
  let v469 : BitVec 32 := Scalar.addi v468 c768_i32
  let c0_i32_293 : BitVec 32 := 0#32
  ![v469.toNat, 0]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v267 : BitVec 1 := Scalar.cmpi .sge v8 c3_i32_167
  let v303 : BitVec 32 := Scalar.extui v267
  let c0_i32_189 : BitVec 32 := 0#32
  let v304 : BitVec 1 := Scalar.cmpi .ne v303 c0_i32_189
  v304

def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v271 : BitVec 32 := Scalar.subi v8 c1_i32_171
  let c2_i32_172 : BitVec 32 := 2#32
  let v272 : BitVec 32 := Scalar.subi v271 c2_i32_172
  let c4096_i32_285 : BitVec 32 := 4096#32
  let v467 : BitVec 32 := Scalar.muli v272 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c768_i32 : BitVec 32 := 768#32
  let v469 : BitVec 32 := Scalar.addi v468 c768_i32
  let c0_i32_294 : BitVec 32 := 0#32
  ![v469.toNat, 0]
def k0_dev99 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v483 : BitVec 32 := Scalar.muli v2 c16_i32_302
  let v484 : BitVec 32 := Scalar.addi c0_i32_303 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_304 : BitVec 32 := 4#32
  let v485 : BitVec 32 := Scalar.muli v22 c4_i32_304
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v487 : BitVec 32 := Scalar.muli v8 c1_i32_305
  let v488 : BitVec 32 := Scalar.addi v486 v487
  v488.toNat
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_168 : BitVec 32 := 2#32
  let v268 : BitVec 32 := Scalar.addi v8 c2_i32_168
  let c1_i32_169 : BitVec 32 := 1#32
  let v269 : BitVec 32 := Scalar.addi v268 c1_i32_169
  let c3_i32_170 : BitVec 32 := 3#32
  let v270 : BitVec 1 := Scalar.cmpi .sle v269 c3_i32_170
  let v305 : BitVec 32 := Scalar.extui v270
  let c0_i32_190 : BitVec 32 := 0#32
  let v306 : BitVec 1 := Scalar.cmpi .ne v305 c0_i32_190
  v306

def k0_off113 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v273 : BitVec 32 := Scalar.addi v8 c1_i32_173
  let c2_i32_174 : BitVec 32 := 2#32
  let v274 : BitVec 32 := Scalar.addi v273 c2_i32_174
  let c4096_i32_285 : BitVec 32 := 4096#32
  let v467 : BitVec 32 := Scalar.muli v274 c4096_i32_285
  let c2_i32_20 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v40 : BitVec 32 := Scalar.muli c2_i32_20 v9
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v41 : BitVec 32 := Scalar.addi v40 v32
  let c1024_i32_21 : BitVec 32 := 1024#32
  let v42 : BitVec 32 := Scalar.muli v41 c1024_i32_21
  let v468 : BitVec 32 := Scalar.addi v467 v42
  let c768_i32 : BitVec 32 := 768#32
  let v469 : BitVec 32 := Scalar.addi v468 c768_i32
  let c0_i32_293 : BitVec 32 := 0#32
  ![v469.toNat, 0]
def k0_dev100 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v483 : BitVec 32 := Scalar.muli v2 c16_i32_301
  let v484 : BitVec 32 := Scalar.addi c0_i32_302 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_8 : BitVec 32 := 2#32
  let v20 : BitVec 32 := Scalar.muli v19 c2_i32_8
  let v21 : BitVec 32 := Scalar.subi v5 v20
  let c1_i32_9 : BitVec 32 := 1#32
  let v22 : BitVec 32 := Scalar.addi v21 c1_i32_9
  let c4_i32_303 : BitVec 32 := 4#32
  let v485 : BitVec 32 := Scalar.muli v22 c4_i32_303
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v487 : BitVec 32 := Scalar.muli v8 c1_i32_304
  let v488 : BitVec 32 := Scalar.addi v486 v487
  v488.toNat
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v307 : BitVec 1 := Scalar.cmpi .sge v8 c1_i32_191
  let v311 : BitVec 32 := Scalar.extui v307
  let c0_i32_195 : BitVec 32 := 0#32
  let v312 : BitVec 1 := Scalar.cmpi .ne v311 c0_i32_195
  v312

def k0_off114 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c0_i32_285 : BitVec 32 := 0#32
  let v467 : BitVec 32 := Scalar.addi v46 c0_i32_285
  let c0_i32_294 : BitVec 32 := 0#32
  ![v467.toNat, 0]
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_192 : BitVec 32 := 0#32
  let v308 : BitVec 32 := Scalar.addi v8 c0_i32_192
  let c1_i32_193 : BitVec 32 := 1#32
  let v309 : BitVec 32 := Scalar.addi v308 c1_i32_193
  let c3_i32_194 : BitVec 32 := 3#32
  let v310 : BitVec 1 := Scalar.cmpi .sle v309 c3_i32_194
  let v313 : BitVec 32 := Scalar.extui v310
  let c0_i32_196 : BitVec 32 := 0#32
  let v314 : BitVec 1 := Scalar.cmpi .ne v313 c0_i32_196
  v314

def k0_off115 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c0_i32_285 : BitVec 32 := 0#32
  let v467 : BitVec 32 := Scalar.addi v46 c0_i32_285
  let c0_i32_294 : BitVec 32 := 0#32
  ![v467.toNat, 0]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v307 : BitVec 1 := Scalar.cmpi .sge v8 c1_i32_191
  let v315 : BitVec 32 := Scalar.extui v307
  let c0_i32_197 : BitVec 32 := 0#32
  let v316 : BitVec 1 := Scalar.cmpi .ne v315 c0_i32_197
  v316

def k0_off116 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c256_i32 : BitVec 32 := 256#32
  let v467 : BitVec 32 := Scalar.addi v46 c256_i32
  let c0_i32_293 : BitVec 32 := 0#32
  ![v467.toNat, 0]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_192 : BitVec 32 := 0#32
  let v308 : BitVec 32 := Scalar.addi v8 c0_i32_192
  let c1_i32_193 : BitVec 32 := 1#32
  let v309 : BitVec 32 := Scalar.addi v308 c1_i32_193
  let c3_i32_194 : BitVec 32 := 3#32
  let v310 : BitVec 1 := Scalar.cmpi .sle v309 c3_i32_194
  let v317 : BitVec 32 := Scalar.extui v310
  let c0_i32_198 : BitVec 32 := 0#32
  let v318 : BitVec 1 := Scalar.cmpi .ne v317 c0_i32_198
  v318

def k0_off117 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c256_i32 : BitVec 32 := 256#32
  let v467 : BitVec 32 := Scalar.addi v46 c256_i32
  let c0_i32_293 : BitVec 32 := 0#32
  ![v467.toNat, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_199 : BitVec 32 := 2#32
  let v319 : BitVec 1 := Scalar.cmpi .sge v8 c2_i32_199
  let v323 : BitVec 32 := Scalar.extui v319
  let c0_i32_203 : BitVec 32 := 0#32
  let v324 : BitVec 1 := Scalar.cmpi .ne v323 c0_i32_203
  v324

def k0_off118 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c0_i32_285 : BitVec 32 := 0#32
  let v467 : BitVec 32 := Scalar.addi v46 c0_i32_285
  let c0_i32_294 : BitVec 32 := 0#32
  ![v467.toNat, 0]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v320 : BitVec 32 := Scalar.addi v8 c1_i32_200
  let c1_i32_201 : BitVec 32 := 1#32
  let v321 : BitVec 32 := Scalar.addi v320 c1_i32_201
  let c3_i32_202 : BitVec 32 := 3#32
  let v322 : BitVec 1 := Scalar.cmpi .sle v321 c3_i32_202
  let v325 : BitVec 32 := Scalar.extui v322
  let c0_i32_204 : BitVec 32 := 0#32
  let v326 : BitVec 1 := Scalar.cmpi .ne v325 c0_i32_204
  v326

def k0_off119 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c0_i32_285 : BitVec 32 := 0#32
  let v467 : BitVec 32 := Scalar.addi v46 c0_i32_285
  let c0_i32_294 : BitVec 32 := 0#32
  ![v467.toNat, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_199 : BitVec 32 := 2#32
  let v319 : BitVec 1 := Scalar.cmpi .sge v8 c2_i32_199
  let v327 : BitVec 32 := Scalar.extui v319
  let c0_i32_205 : BitVec 32 := 0#32
  let v328 : BitVec 1 := Scalar.cmpi .ne v327 c0_i32_205
  v328

def k0_off120 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c256_i32 : BitVec 32 := 256#32
  let v467 : BitVec 32 := Scalar.addi v46 c256_i32
  let c0_i32_293 : BitVec 32 := 0#32
  ![v467.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v320 : BitVec 32 := Scalar.addi v8 c1_i32_200
  let c1_i32_201 : BitVec 32 := 1#32
  let v321 : BitVec 32 := Scalar.addi v320 c1_i32_201
  let c3_i32_202 : BitVec 32 := 3#32
  let v322 : BitVec 1 := Scalar.cmpi .sle v321 c3_i32_202
  let v329 : BitVec 32 := Scalar.extui v322
  let c0_i32_206 : BitVec 32 := 0#32
  let v330 : BitVec 1 := Scalar.cmpi .ne v329 c0_i32_206
  v330

def k0_off121 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c256_i32 : BitVec 32 := 256#32
  let v467 : BitVec 32 := Scalar.addi v46 c256_i32
  let c0_i32_293 : BitVec 32 := 0#32
  ![v467.toNat, 0]
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_207 : BitVec 32 := 3#32
  let v331 : BitVec 1 := Scalar.cmpi .sge v8 c3_i32_207
  let v335 : BitVec 32 := Scalar.extui v331
  let c0_i32_211 : BitVec 32 := 0#32
  let v336 : BitVec 1 := Scalar.cmpi .ne v335 c0_i32_211
  v336

def k0_off122 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c0_i32_285 : BitVec 32 := 0#32
  let v467 : BitVec 32 := Scalar.addi v46 c0_i32_285
  let c0_i32_294 : BitVec 32 := 0#32
  ![v467.toNat, 0]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_208 : BitVec 32 := 2#32
  let v332 : BitVec 32 := Scalar.addi v8 c2_i32_208
  let c1_i32_209 : BitVec 32 := 1#32
  let v333 : BitVec 32 := Scalar.addi v332 c1_i32_209
  let c3_i32_210 : BitVec 32 := 3#32
  let v334 : BitVec 1 := Scalar.cmpi .sle v333 c3_i32_210
  let v337 : BitVec 32 := Scalar.extui v334
  let c0_i32_212 : BitVec 32 := 0#32
  let v338 : BitVec 1 := Scalar.cmpi .ne v337 c0_i32_212
  v338

def k0_off123 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c0_i32_285 : BitVec 32 := 0#32
  let v467 : BitVec 32 := Scalar.addi v46 c0_i32_285
  let c0_i32_293 : BitVec 32 := 0#32
  ![v467.toNat, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_207 : BitVec 32 := 3#32
  let v331 : BitVec 1 := Scalar.cmpi .sge v8 c3_i32_207
  let v339 : BitVec 32 := Scalar.extui v331
  let c0_i32_213 : BitVec 32 := 0#32
  let v340 : BitVec 1 := Scalar.cmpi .ne v339 c0_i32_213
  v340

def k0_off124 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c256_i32 : BitVec 32 := 256#32
  let v467 : BitVec 32 := Scalar.addi v46 c256_i32
  let c0_i32_293 : BitVec 32 := 0#32
  ![v467.toNat, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_208 : BitVec 32 := 2#32
  let v332 : BitVec 32 := Scalar.addi v8 c2_i32_208
  let c1_i32_209 : BitVec 32 := 1#32
  let v333 : BitVec 32 := Scalar.addi v332 c1_i32_209
  let c3_i32_210 : BitVec 32 := 3#32
  let v334 : BitVec 1 := Scalar.cmpi .sle v333 c3_i32_210
  let v341 : BitVec 32 := Scalar.extui v334
  let c0_i32_214 : BitVec 32 := 0#32
  let v342 : BitVec 1 := Scalar.cmpi .ne v341 c0_i32_214
  v342

def k0_off125 (d0 : Dev nD) : Fin 2 → Nat :=
  let c2_i32_22 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v43 : BitVec 32 := Scalar.muli c2_i32_22 v9
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v44 : BitVec 32 := Scalar.subi c1_i32_23 v32
  let v45 : BitVec 32 := Scalar.addi v43 v44
  let c1024_i32_24 : BitVec 32 := 1024#32
  let v46 : BitVec 32 := Scalar.muli v45 c1024_i32_24
  let c256_i32 : BitVec 32 := 256#32
  let v467 : BitVec 32 := Scalar.addi v46 c256_i32
  let c0_i32_292 : BitVec 32 := 0#32
  ![v467.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c0_i32_216 : BitVec 32 := 0#32
  let v344 : BitVec 1 := Scalar.cmpi .sge v8 c0_i32_216
  let v345 : BitVec 1 := Scalar.andi v70 v344
  let v353 : BitVec 32 := Scalar.extui v345
  let c0_i32_223 : BitVec 32 := 0#32
  let v354 : BitVec 1 := Scalar.cmpi .ne v353 c0_i32_223
  v354

def k0_off126 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c0_i32_287 : BitVec 32 := 0#32
  let v469 : BitVec 32 := Scalar.addi v35 c0_i32_287
  let c0_i32_293 : BitVec 32 := 0#32
  ![v469.toNat, 0]
def k0_off127 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c0_i32_286 : BitVec 32 := 0#32
  let v468 : BitVec 32 := Scalar.addi v467 c0_i32_286
  let c0_i32_294 : BitVec 32 := 0#32
  ![v468.toNat, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c0_i32_217 : BitVec 32 := 0#32
  let v346 : BitVec 32 := Scalar.addi v8 c0_i32_217
  let c3_i32_218 : BitVec 32 := 3#32
  let v347 : BitVec 1 := Scalar.cmpi .sle v346 c3_i32_218
  let v348 : BitVec 1 := Scalar.andi v71 v347
  let v355 : BitVec 32 := Scalar.extui v348
  let c0_i32_224 : BitVec 32 := 0#32
  let v356 : BitVec 1 := Scalar.cmpi .ne v355 c0_i32_224
  v356

def k0_off128 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c0_i32_287 : BitVec 32 := 0#32
  let v469 : BitVec 32 := Scalar.addi v35 c0_i32_287
  let c0_i32_293 : BitVec 32 := 0#32
  ![v469.toNat, 0]
def k0_off129 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c0_i32_286 : BitVec 32 := 0#32
  let v468 : BitVec 32 := Scalar.addi v467 c0_i32_286
  let c0_i32_294 : BitVec 32 := 0#32
  ![v468.toNat, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c0_i32_216 : BitVec 32 := 0#32
  let v344 : BitVec 1 := Scalar.cmpi .sge v8 c0_i32_216
  let v345 : BitVec 1 := Scalar.andi v70 v344
  let v361 : BitVec 32 := Scalar.extui v345
  let c0_i32_227 : BitVec 32 := 0#32
  let v362 : BitVec 1 := Scalar.cmpi .ne v361 c0_i32_227
  v362

def k0_off130 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c256_i32_286 : BitVec 32 := 256#32
  let v469 : BitVec 32 := Scalar.addi v35 c256_i32_286
  let c0_i32_292 : BitVec 32 := 0#32
  ![v469.toNat, 0]
def k0_off131 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c256_i32 : BitVec 32 := 256#32
  let v468 : BitVec 32 := Scalar.addi v467 c256_i32
  let c0_i32_293 : BitVec 32 := 0#32
  ![v468.toNat, 0]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c0_i32_217 : BitVec 32 := 0#32
  let v346 : BitVec 32 := Scalar.addi v8 c0_i32_217
  let c3_i32_218 : BitVec 32 := 3#32
  let v347 : BitVec 1 := Scalar.cmpi .sle v346 c3_i32_218
  let v348 : BitVec 1 := Scalar.andi v71 v347
  let v363 : BitVec 32 := Scalar.extui v348
  let c0_i32_228 : BitVec 32 := 0#32
  let v364 : BitVec 1 := Scalar.cmpi .ne v363 c0_i32_228
  v364

def k0_off132 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c256_i32_286 : BitVec 32 := 256#32
  let v469 : BitVec 32 := Scalar.addi v35 c256_i32_286
  let c0_i32_292 : BitVec 32 := 0#32
  ![v469.toNat, 0]
def k0_off133 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c256_i32 : BitVec 32 := 256#32
  let v468 : BitVec 32 := Scalar.addi v467 c256_i32
  let c0_i32_293 : BitVec 32 := 0#32
  ![v468.toNat, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c0_i32_216 : BitVec 32 := 0#32
  let v344 : BitVec 1 := Scalar.cmpi .sge v8 c0_i32_216
  let v345 : BitVec 1 := Scalar.andi v70 v344
  let v369 : BitVec 32 := Scalar.extui v345
  let c0_i32_231 : BitVec 32 := 0#32
  let v370 : BitVec 1 := Scalar.cmpi .ne v369 c0_i32_231
  v370

def k0_off134 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c512_i32_286 : BitVec 32 := 512#32
  let v469 : BitVec 32 := Scalar.addi v35 c512_i32_286
  let c0_i32_292 : BitVec 32 := 0#32
  ![v469.toNat, 0]
def k0_off135 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c512_i32 : BitVec 32 := 512#32
  let v468 : BitVec 32 := Scalar.addi v467 c512_i32
  let c0_i32_293 : BitVec 32 := 0#32
  ![v468.toNat, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c0_i32_217 : BitVec 32 := 0#32
  let v346 : BitVec 32 := Scalar.addi v8 c0_i32_217
  let c3_i32_218 : BitVec 32 := 3#32
  let v347 : BitVec 1 := Scalar.cmpi .sle v346 c3_i32_218
  let v348 : BitVec 1 := Scalar.andi v71 v347
  let v371 : BitVec 32 := Scalar.extui v348
  let c0_i32_232 : BitVec 32 := 0#32
  let v372 : BitVec 1 := Scalar.cmpi .ne v371 c0_i32_232
  v372

def k0_off136 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c512_i32_286 : BitVec 32 := 512#32
  let v469 : BitVec 32 := Scalar.addi v35 c512_i32_286
  let c0_i32_292 : BitVec 32 := 0#32
  ![v469.toNat, 0]
def k0_off137 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c512_i32 : BitVec 32 := 512#32
  let v468 : BitVec 32 := Scalar.addi v467 c512_i32
  let c0_i32_293 : BitVec 32 := 0#32
  ![v468.toNat, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c0_i32_216 : BitVec 32 := 0#32
  let v344 : BitVec 1 := Scalar.cmpi .sge v8 c0_i32_216
  let v345 : BitVec 1 := Scalar.andi v70 v344
  let v377 : BitVec 32 := Scalar.extui v345
  let c0_i32_235 : BitVec 32 := 0#32
  let v378 : BitVec 1 := Scalar.cmpi .ne v377 c0_i32_235
  v378

def k0_off138 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c768_i32_286 : BitVec 32 := 768#32
  let v469 : BitVec 32 := Scalar.addi v35 c768_i32_286
  let c0_i32_292 : BitVec 32 := 0#32
  ![v469.toNat, 0]
def k0_off139 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c768_i32 : BitVec 32 := 768#32
  let v468 : BitVec 32 := Scalar.addi v467 c768_i32
  let c0_i32_293 : BitVec 32 := 0#32
  ![v468.toNat, 0]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c0_i32_217 : BitVec 32 := 0#32
  let v346 : BitVec 32 := Scalar.addi v8 c0_i32_217
  let c3_i32_218 : BitVec 32 := 3#32
  let v347 : BitVec 1 := Scalar.cmpi .sle v346 c3_i32_218
  let v348 : BitVec 1 := Scalar.andi v71 v347
  let v379 : BitVec 32 := Scalar.extui v348
  let c0_i32_236 : BitVec 32 := 0#32
  let v380 : BitVec 1 := Scalar.cmpi .ne v379 c0_i32_236
  v380

def k0_off140 (d0 : Dev nD) : Fin 2 → Nat :=
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let c768_i32_286 : BitVec 32 := 768#32
  let v469 : BitVec 32 := Scalar.addi v35 c768_i32_286
  let c0_i32_292 : BitVec 32 := 0#32
  ![v469.toNat, 0]
def k0_off141 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c768_i32 : BitVec 32 := 768#32
  let v468 : BitVec 32 := Scalar.addi v467 c768_i32
  let c0_i32_293 : BitVec 32 := 0#32
  ![v468.toNat, 0]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c1_i32_239 : BitVec 32 := 1#32
  let v385 : BitVec 1 := Scalar.cmpi .sge v8 c1_i32_239
  let v386 : BitVec 1 := Scalar.andi v70 v385
  let v394 : BitVec 32 := Scalar.extui v386
  let c0_i32_246 : BitVec 32 := 0#32
  let v395 : BitVec 1 := Scalar.cmpi .ne v394 c0_i32_246
  v395

def k0_off142 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c0_i32_286 : BitVec 32 := 0#32
  let v468 : BitVec 32 := Scalar.addi v467 c0_i32_286
  let c0_i32_292 : BitVec 32 := 0#32
  ![v468.toNat, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c1_i32_240 : BitVec 32 := 1#32
  let v387 : BitVec 32 := Scalar.addi v8 c1_i32_240
  let c3_i32_241 : BitVec 32 := 3#32
  let v388 : BitVec 1 := Scalar.cmpi .sle v387 c3_i32_241
  let v389 : BitVec 1 := Scalar.andi v71 v388
  let v396 : BitVec 32 := Scalar.extui v389
  let c0_i32_247 : BitVec 32 := 0#32
  let v397 : BitVec 1 := Scalar.cmpi .ne v396 c0_i32_247
  v397

def k0_off143 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c0_i32_286 : BitVec 32 := 0#32
  let v468 : BitVec 32 := Scalar.addi v467 c0_i32_286
  let c0_i32_292 : BitVec 32 := 0#32
  ![v468.toNat, 0]
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c1_i32_239 : BitVec 32 := 1#32
  let v385 : BitVec 1 := Scalar.cmpi .sge v8 c1_i32_239
  let v386 : BitVec 1 := Scalar.andi v70 v385
  let v402 : BitVec 32 := Scalar.extui v386
  let c0_i32_250 : BitVec 32 := 0#32
  let v403 : BitVec 1 := Scalar.cmpi .ne v402 c0_i32_250
  v403

def k0_off144 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c256_i32 : BitVec 32 := 256#32
  let v468 : BitVec 32 := Scalar.addi v467 c256_i32
  let c0_i32_291 : BitVec 32 := 0#32
  ![v468.toNat, 0]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c1_i32_240 : BitVec 32 := 1#32
  let v387 : BitVec 32 := Scalar.addi v8 c1_i32_240
  let c3_i32_241 : BitVec 32 := 3#32
  let v388 : BitVec 1 := Scalar.cmpi .sle v387 c3_i32_241
  let v389 : BitVec 1 := Scalar.andi v71 v388
  let v404 : BitVec 32 := Scalar.extui v389
  let c0_i32_251 : BitVec 32 := 0#32
  let v405 : BitVec 1 := Scalar.cmpi .ne v404 c0_i32_251
  v405

def k0_off145 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c256_i32 : BitVec 32 := 256#32
  let v468 : BitVec 32 := Scalar.addi v467 c256_i32
  let c0_i32_291 : BitVec 32 := 0#32
  ![v468.toNat, 0]
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c1_i32_239 : BitVec 32 := 1#32
  let v385 : BitVec 1 := Scalar.cmpi .sge v8 c1_i32_239
  let v386 : BitVec 1 := Scalar.andi v70 v385
  let v410 : BitVec 32 := Scalar.extui v386
  let c0_i32_254 : BitVec 32 := 0#32
  let v411 : BitVec 1 := Scalar.cmpi .ne v410 c0_i32_254
  v411

def k0_off146 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c512_i32 : BitVec 32 := 512#32
  let v468 : BitVec 32 := Scalar.addi v467 c512_i32
  let c0_i32_291 : BitVec 32 := 0#32
  ![v468.toNat, 0]
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c1_i32_240 : BitVec 32 := 1#32
  let v387 : BitVec 32 := Scalar.addi v8 c1_i32_240
  let c3_i32_241 : BitVec 32 := 3#32
  let v388 : BitVec 1 := Scalar.cmpi .sle v387 c3_i32_241
  let v389 : BitVec 1 := Scalar.andi v71 v388
  let v412 : BitVec 32 := Scalar.extui v389
  let c0_i32_255 : BitVec 32 := 0#32
  let v413 : BitVec 1 := Scalar.cmpi .ne v412 c0_i32_255
  v413

def k0_off147 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c512_i32 : BitVec 32 := 512#32
  let v468 : BitVec 32 := Scalar.addi v467 c512_i32
  let c0_i32_291 : BitVec 32 := 0#32
  ![v468.toNat, 0]
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c1_i32_239 : BitVec 32 := 1#32
  let v385 : BitVec 1 := Scalar.cmpi .sge v8 c1_i32_239
  let v386 : BitVec 1 := Scalar.andi v70 v385
  let v418 : BitVec 32 := Scalar.extui v386
  let c0_i32_258 : BitVec 32 := 0#32
  let v419 : BitVec 1 := Scalar.cmpi .ne v418 c0_i32_258
  v419

def k0_off148 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c768_i32 : BitVec 32 := 768#32
  let v468 : BitVec 32 := Scalar.addi v467 c768_i32
  let c0_i32_291 : BitVec 32 := 0#32
  ![v468.toNat, 0]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c1_i32_240 : BitVec 32 := 1#32
  let v387 : BitVec 32 := Scalar.addi v8 c1_i32_240
  let c3_i32_241 : BitVec 32 := 3#32
  let v388 : BitVec 1 := Scalar.cmpi .sle v387 c3_i32_241
  let v389 : BitVec 1 := Scalar.andi v71 v388
  let v420 : BitVec 32 := Scalar.extui v389
  let c0_i32_259 : BitVec 32 := 0#32
  let v421 : BitVec 1 := Scalar.cmpi .ne v420 c0_i32_259
  v421

def k0_off149 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c768_i32 : BitVec 32 := 768#32
  let v468 : BitVec 32 := Scalar.addi v467 c768_i32
  let c0_i32_291 : BitVec 32 := 0#32
  ![v468.toNat, 0]
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c2_i32_262 : BitVec 32 := 2#32
  let v426 : BitVec 1 := Scalar.cmpi .sge v8 c2_i32_262
  let v427 : BitVec 1 := Scalar.andi v70 v426
  let v435 : BitVec 32 := Scalar.extui v427
  let c0_i32_269 : BitVec 32 := 0#32
  let v436 : BitVec 1 := Scalar.cmpi .ne v435 c0_i32_269
  v436

def k0_off150 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c0_i32_286 : BitVec 32 := 0#32
  let v468 : BitVec 32 := Scalar.addi v467 c0_i32_286
  let c0_i32_292 : BitVec 32 := 0#32
  ![v468.toNat, 0]
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c2_i32_263 : BitVec 32 := 2#32
  let v428 : BitVec 32 := Scalar.addi v8 c2_i32_263
  let c3_i32_264 : BitVec 32 := 3#32
  let v429 : BitVec 1 := Scalar.cmpi .sle v428 c3_i32_264
  let v430 : BitVec 1 := Scalar.andi v71 v429
  let v437 : BitVec 32 := Scalar.extui v430
  let c0_i32_270 : BitVec 32 := 0#32
  let v438 : BitVec 1 := Scalar.cmpi .ne v437 c0_i32_270
  v438

def k0_off151 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c0_i32_286 : BitVec 32 := 0#32
  let v468 : BitVec 32 := Scalar.addi v467 c0_i32_286
  let c0_i32_292 : BitVec 32 := 0#32
  ![v468.toNat, 0]
def k0_cond145 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c2_i32_262 : BitVec 32 := 2#32
  let v426 : BitVec 1 := Scalar.cmpi .sge v8 c2_i32_262
  let v427 : BitVec 1 := Scalar.andi v70 v426
  let v443 : BitVec 32 := Scalar.extui v427
  let c0_i32_273 : BitVec 32 := 0#32
  let v444 : BitVec 1 := Scalar.cmpi .ne v443 c0_i32_273
  v444

def k0_off152 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c256_i32 : BitVec 32 := 256#32
  let v468 : BitVec 32 := Scalar.addi v467 c256_i32
  let c0_i32_291 : BitVec 32 := 0#32
  ![v468.toNat, 0]
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c2_i32_263 : BitVec 32 := 2#32
  let v428 : BitVec 32 := Scalar.addi v8 c2_i32_263
  let c3_i32_264 : BitVec 32 := 3#32
  let v429 : BitVec 1 := Scalar.cmpi .sle v428 c3_i32_264
  let v430 : BitVec 1 := Scalar.andi v71 v429
  let v445 : BitVec 32 := Scalar.extui v430
  let c0_i32_274 : BitVec 32 := 0#32
  let v446 : BitVec 1 := Scalar.cmpi .ne v445 c0_i32_274
  v446

def k0_off153 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c256_i32 : BitVec 32 := 256#32
  let v468 : BitVec 32 := Scalar.addi v467 c256_i32
  let c0_i32_291 : BitVec 32 := 0#32
  ![v468.toNat, 0]
def k0_cond149 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c2_i32_262 : BitVec 32 := 2#32
  let v426 : BitVec 1 := Scalar.cmpi .sge v8 c2_i32_262
  let v427 : BitVec 1 := Scalar.andi v70 v426
  let v451 : BitVec 32 := Scalar.extui v427
  let c0_i32_277 : BitVec 32 := 0#32
  let v452 : BitVec 1 := Scalar.cmpi .ne v451 c0_i32_277
  v452

def k0_off154 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c512_i32 : BitVec 32 := 512#32
  let v468 : BitVec 32 := Scalar.addi v467 c512_i32
  let c0_i32_291 : BitVec 32 := 0#32
  ![v468.toNat, 0]
def k0_cond150 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c2_i32_263 : BitVec 32 := 2#32
  let v428 : BitVec 32 := Scalar.addi v8 c2_i32_263
  let c3_i32_264 : BitVec 32 := 3#32
  let v429 : BitVec 1 := Scalar.cmpi .sle v428 c3_i32_264
  let v430 : BitVec 1 := Scalar.andi v71 v429
  let v453 : BitVec 32 := Scalar.extui v430
  let c0_i32_278 : BitVec 32 := 0#32
  let v454 : BitVec 1 := Scalar.cmpi .ne v453 c0_i32_278
  v454

def k0_off155 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c512_i32 : BitVec 32 := 512#32
  let v468 : BitVec 32 := Scalar.addi v467 c512_i32
  let c0_i32_291 : BitVec 32 := 0#32
  ![v468.toNat, 0]
def k0_cond153 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_40 : BitVec 32 := 2#32
  let v70 : BitVec 1 := Scalar.cmpi .sle v8 c2_i32_40
  let c2_i32_262 : BitVec 32 := 2#32
  let v426 : BitVec 1 := Scalar.cmpi .sge v8 c2_i32_262
  let v427 : BitVec 1 := Scalar.andi v70 v426
  let v459 : BitVec 32 := Scalar.extui v427
  let c0_i32_281 : BitVec 32 := 0#32
  let v460 : BitVec 1 := Scalar.cmpi .ne v459 c0_i32_281
  v460

def k0_off156 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c768_i32 : BitVec 32 := 768#32
  let v468 : BitVec 32 := Scalar.addi v467 c768_i32
  let c0_i32_291 : BitVec 32 := 0#32
  ![v468.toNat, 0]
def k0_cond154 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v71 : BitVec 1 := Scalar.cmpi .sge v8 c1_i32_41
  let c2_i32_263 : BitVec 32 := 2#32
  let v428 : BitVec 32 := Scalar.addi v8 c2_i32_263
  let c3_i32_264 : BitVec 32 := 3#32
  let v429 : BitVec 1 := Scalar.cmpi .sle v428 c3_i32_264
  let v430 : BitVec 1 := Scalar.andi v71 v429
  let v461 : BitVec 32 := Scalar.extui v430
  let c0_i32_282 : BitVec 32 := 0#32
  let v462 : BitVec 1 := Scalar.cmpi .ne v461 c0_i32_282
  v462

def k0_off157 (d0 : Dev nD) : Fin 2 → Nat :=
  let c0_i32_285 : BitVec 32 := 0#32
  let c2_i32_16 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.muli c2_i32_16 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let v34 : BitVec 32 := Scalar.addi v33 v32
  let c1024_i32 : BitVec 32 := 1024#32
  let v35 : BitVec 32 := Scalar.muli v34 c1024_i32
  let v467 : BitVec 32 := Scalar.addi c0_i32_285 v35
  let c768_i32 : BitVec 32 := 768#32
  let v468 : BitVec 32 := Scalar.addi v467 c768_i32
  let c0_i32_291 : BitVec 32 := 0#32
  ![v468.toNat, 0]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
`Plan`: the gather as pure data, with no program and no memory in it.

Thirty-two devices stand on a grid `2 × 4 × 4` (`x`, `y`, `z`; the number of a device is `16 x + 4 y + z`). A device
exchanges segments of 256 rows with four neighbours: its `x` partner, the other device of its `y` pair, and the two
devices beside it along `z`. `T` names the transfers by what they do; `prog z` is the list of everything a device at
depth `z` does, in program order; an `Atom` is one thing a device may hold on to between two of its steps; and `run`
plays the list on a collection of atoms, checking that each step finds what it consumes and that no wait can be
part of a cycle. `Plays` plays it for the four depths.
-/
module

public import proofs.«01_k».proof.Proof.Gen.KernelIdeal

@[expose] public section

namespace Cert.Gather

/-- A device. -/
abbrev Dv := Fin 32

/-- Where a device stands along `z`. -/
def zc (c : Dv) : ℕ := c.val % 4

/-- The four neighbours: the `x` partner, the other device of the `y` pair, the next and the previous along `z`
    (those two wrap around). -/
def nb (d : Fin 4) (c : Dv) : Dv :=
  match d with
  | 0 => ⟨(c.val + 16) % 32, Nat.mod_lt _ (by decide)⟩
  | 1 => ⟨(c.val / 8 * 8 + (c.val % 8 + 4) % 8) % 32, Nat.mod_lt _ (by decide)⟩
  | 2 => ⟨(c.val / 4 * 4 + (c.val % 4 + 1) % 4) % 32, Nat.mod_lt _ (by decide)⟩
  | 3 => ⟨(c.val / 4 * 4 + (c.val % 4 + 3) % 4) % 32, Nat.mod_lt _ (by decide)⟩

/-- The direction back. -/
def opp (d : Fin 4) : Fin 4 :=
  match d with
  | 0 => 0
  | 1 => 1
  | 2 => 3
  | 3 => 2

/-- The kinds of transfer: along `z` to the right and to the left; across the `y` pair and to the `x` partner, a segment
    received along `z`; and to the `x` partner (`xr`) or across the `y` pair (`yr`), a segment received from the other. -/
inductive Kind | zR | zL | yd | xd | xr | yr
  deriving DecidableEq

/-- A transfer: its kind, its step (`k < 3` for the two along `z`; for the four others `k < 3` handles what came from the
    left at step `k`, `k ≥ 3` what came from the right at step `k - 3`) and its segment. -/
structure T where
  kind : Kind
  k : Fin 6
  g : Fin 4
  deriving DecidableEq

/-- All transfers there could be. -/
def allT : List T :=
  [Kind.zR, .zL, .yd, .xd, .xr, .yr].flatMap fun q =>
    [(0 : Fin 6), 1, 2, 3, 4, 5].flatMap fun k => [(0 : Fin 4), 1, 2, 3].map fun g => ⟨q, k, g⟩

theorem mem_allT : ∀ t : T, t ∈ allT := by
  rintro ⟨q, k, g⟩
  revert k g
  cases q <;> decide +kernel

theorem nodup_allT : allT.Nodup := by decide +kernel

instance : Fintype T := ⟨⟨(allT : Multiset T), nodup_allT⟩, mem_allT⟩

/-- The neighbour a transfer goes to. -/
def T.dir (t : T) : Fin 4 :=
  match t.kind with
  | .zR => 2
  | .zL => 3
  | .yd => 1
  | .yr => 1
  | .xd => 0
  | .xr => 0

/-- Whether a device at depth `z` receives anything from the left (`k < 3`) or from the right at this step. -/
def has (z : ℕ) (k : Fin 6) : Bool := if k.val < 3 then k.val + 1 ≤ z else z + (k.val - 3) + 1 ≤ 3

/-- The depth whose block arrives then. -/
def from_ (z : ℕ) (k : Fin 6) : ℕ := if k.val < 3 then z - 1 - k.val else z + 1 + (k.val - 3)

/-- Whether a device at depth `z` sends this transfer. -/
def T.sent (t : T) (z : ℕ) : Bool :=
  match t.kind with
  | .zR => t.k.val < 3 && z ≤ 2 && t.k.val ≤ z
  | .zL => t.k.val < 3 && 1 ≤ z && z + t.k.val ≤ 3
  | .yd => has z t.k
  | .xd => has z t.k
  | .xr => t.g.val < 2 && has z t.k
  | .yr => t.g.val < 2 && has z t.k

/-- Whether a device at depth `z` receives this transfer. -/
def T.rcvd (t : T) (z : ℕ) : Bool :=
  match t.kind with
  | .zR => t.k.val < 3 && t.k.val + 1 ≤ z
  | .zL => t.k.val < 3 && z + t.k.val + 1 ≤ 3
  | .yd => has z t.k
  | .xd => has z t.k
  | .xr => t.g.val < 2 && has z t.k
  | .yr => t.g.val < 2 && has z t.k

/-- Whether a transfer is one of the ninety-six the kernel has semaphores for. -/
def T.valid (t : T) : Bool :=
  match t.kind with
  | .zR => t.k.val < 3
  | .zL => t.k.val < 3
  | .yd => true
  | .xd => true
  | .xr => t.g.val < 2
  | .yr => t.g.val < 2

/-- The quarter of every block that a device's own `z` line carries. -/
def quarter (c : Dv) : ℕ := 2 * (c.val / 16) + c.val / 4 % 2

/-- The row of the result where transfer `t`, sent by `c`, begins (on both sides). -/
def T.row (t : T) (c : Dv) : ℕ :=
  match t.kind with
  | .zR => (zc c - t.k.val) * 4096 + quarter c * 1024 + t.g.val * 256
  | .zL => (zc c + t.k.val) * 4096 + quarter c * 1024 + t.g.val * 256
  | .yd => from_ (zc c) t.k * 4096 + quarter c * 1024 + t.g.val * 256
  | .xd => from_ (zc c) t.k * 4096 + quarter c * 1024 + t.g.val * 256
  | .xr => from_ (zc c) t.k * 4096 + quarter (nb 1 c) * 1024 + t.g.val * 256
  | .yr => from_ (zc c) t.k * 4096 + quarter (nb 0 c) * 1024 + t.g.val * 256 + 512

/-- Whether a transfer reads the device's own operand: the first step along `z`. -/
def T.own (t : T) : Bool := (t.kind = .zR || t.kind = .zL) && t.k.val = 0

/-- The row of the operand where such a transfer begins. -/
def T.xrow (t : T) (c : Dv) : ℕ := quarter c * 1024 + t.g.val * 256

/-- The device a transfer of `c` goes to. -/
def T.dst (t : T) (c : Dv) : Dv := nb t.dir c

/-- The device from which `c` receives a transfer. -/
def T.src (t : T) (c : Dv) : Dv := nb (opp t.dir) c

/-- The level of a transfer: a device may wait for a cell when everything it still owes lies on a higher level. -/
def T.lev (t : T) : ℕ :=
  match t.kind with
  | .zR => 1 + t.k.val
  | .zL => 1 + t.k.val
  | .yd => 10
  | .xd => 10
  | .xr => 20
  | .yr => 20

/-- One step of a device: signal a neighbour, wait at the barrier, start and await the local copy, send a transfer,
    await one's arrival, await one's departure. -/
inductive Instr
  | sig (d : Fin 4)
  | bar
  | copy
  | copied
  | send (t : T)
  | recv (t : T)
  | done (t : T)
  deriving DecidableEq

/-- A block of the program: nothing unless the condition holds. -/
def wh (b : Bool) (l : List Instr) : List Instr := bif b then l else []

abbrev zR (s : Fin 6) (g : Fin 4) : T := ⟨.zR, s, g⟩
abbrev zL (s : Fin 6) (g : Fin 4) : T := ⟨.zL, s, g⟩
abbrev yd (k : Fin 6) (g : Fin 4) : T := ⟨.yd, k, g⟩
abbrev xd (k : Fin 6) (g : Fin 4) : T := ⟨.xd, k, g⟩
abbrev xr (k : Fin 6) (g : Fin 4) : T := ⟨.xr, k, g⟩
abbrev yr (k : Fin 6) (g : Fin 4) : T := ⟨.yr, k, g⟩

/-- The blocks of the first loop at segment `g`. -/
def first (z : ℕ) (g : Fin 4) : List (List Instr) :=
  [wh (decide (z ≤ 2)) [.send (zR 0 g)], wh (decide (1 ≤ z)) [.send (zL 0 g)]]

/-- The blocks of the loop along `z` at step `s` and segment `g`: `k` is the step's number for what comes from the
    right; the last step forwards nothing. -/
def along (z : ℕ) (s k : Fin 6) (g : Fin 4) : List (List Instr) :=
  [wh (has z s) ([.recv (zR s g), .send (yd s g), .send (xd s g)] ++ wh (decide (z ≤ 2)) [.send (zR (s + 1) g)]),
   wh (has z k) ([.recv (zL s g), .send (yd k g), .send (xd k g)] ++ wh (decide (1 ≤ z)) [.send (zL (s + 1) g)])]

def alongLast (z : ℕ) (g : Fin 4) : List (List Instr) :=
  [wh (has z 2) [.recv (zR 2 g), .send (yd 2 g), .send (xd 2 g)],
   wh (has z 5) [.recv (zL 2 g), .send (yd 5 g), .send (xd 5 g)]]

/-- The blocks of the lateral loop for the two lower segments, and for the two upper ones (`h` is the segment less two). -/
def acrossLow (z : ℕ) (s k : Fin 6) (g : Fin 4) : List (List Instr) :=
  [wh (has z s) [.recv (yd s g), .send (xr s g)], wh (has z k) [.recv (yd k g), .send (xr k g)],
   wh (has z s) [.recv (xd s g)], wh (has z k) [.recv (xd k g)]]

def acrossHigh (z : ℕ) (s k : Fin 6) (g h : Fin 4) : List (List Instr) :=
  [wh (has z s) [.recv (yd s g)], wh (has z k) [.recv (yd k g)],
   wh (has z s) [.recv (xd s g), .send (yr s h)], wh (has z k) [.recv (xd k g), .send (yr k h)]]

/-- The blocks of the loop awaiting the diagonal quarter. -/
def diag (z : ℕ) (s k : Fin 6) (g : Fin 4) : List (List Instr) :=
  [wh (has z s) [.recv (xr s g), .recv (yr s g)], wh (has z k) [.recv (xr k g), .recv (yr k g)]]

/-- The blocks of the last loop, for the lower and the upper segments. -/
def drainLow (z : ℕ) (s k : Fin 6) (g : Fin 4) : List (List Instr) :=
  [wh ((zR s g).sent z) [.done (zR s g)], wh ((zL s g).sent z) [.done (zL s g)],
   wh (has z s) [.done (yd s g), .done (xd s g), .done (xr s g), .done (yr s g)],
   wh (has z k) [.done (yd k g), .done (xd k g), .done (xr k g), .done (yr k g)]]

def drainHigh (z : ℕ) (s k : Fin 6) (g : Fin 4) : List (List Instr) :=
  [wh ((zR s g).sent z) [.done (zR s g)], wh ((zL s g).sent z) [.done (zL s g)],
   wh (has z s) [.done (yd s g), .done (xd s g)], wh (has z k) [.done (yd k g), .done (xd k g)]]

/-- The blocks of the whole program of a device at depth `z`, in order. -/
def blocks (z : ℕ) : List (List Instr) :=
  [[.sig 0, .sig 1, .sig 2, .sig 3, .bar, .copy]]
  ++ (first z 0 ++ first z 1 ++ first z 2 ++ first z 3)
  ++ (along z 0 3 0 ++ along z 0 3 1 ++ along z 0 3 2 ++ along z 0 3 3)
  ++ (along z 1 4 0 ++ along z 1 4 1 ++ along z 1 4 2 ++ along z 1 4 3)
  ++ (alongLast z 0 ++ alongLast z 1 ++ alongLast z 2 ++ alongLast z 3)
  ++ (acrossLow z 0 3 0 ++ acrossLow z 0 3 1 ++ acrossHigh z 0 3 2 0 ++ acrossHigh z 0 3 3 1)
  ++ (acrossLow z 1 4 0 ++ acrossLow z 1 4 1 ++ acrossHigh z 1 4 2 0 ++ acrossHigh z 1 4 3 1)
  ++ (acrossLow z 2 5 0 ++ acrossLow z 2 5 1 ++ acrossHigh z 2 5 2 0 ++ acrossHigh z 2 5 3 1)
  ++ (diag z 0 3 0 ++ diag z 0 3 1 ++ diag z 1 4 0 ++ diag z 1 4 1 ++ diag z 2 5 0 ++ diag z 2 5 1)
  ++ [[.copied]]
  ++ (drainLow z 0 3 0 ++ drainLow z 0 3 1 ++ drainHigh z 0 3 2 ++ drainHigh z 0 3 3)
  ++ (drainLow z 1 4 0 ++ drainLow z 1 4 1 ++ drainHigh z 1 4 2 ++ drainHigh z 1 4 3)
  ++ (drainLow z 2 5 0 ++ drainLow z 2 5 1 ++ drainHigh z 2 5 2 ++ drainHigh z 2 5 3)

/-- The whole program of a device at depth `z`. -/
def prog (z : ℕ) : List Instr := (blocks z).flatten

/-- What a device may hold between two steps. `sig d`: the right to signal neighbour `d`, with what the signal hands
    over. `bar`, `barOut`: the barrier not yet and already passed. `cp0`, `cp1`, `cp2`: the local copy not begun, under
    way, finished. Of a transfer it sends — `land`: the place on the other device where it arrives; `tok`: the right to
    start it; `src`: what it reads; `spos`, `cred`: the departure not yet awaited, and under way; `sdone`: awaited. Of
    one it receives — `rpos`: not yet awaited; `rdone`: awaited; `keep`: the rows it brought. -/
inductive Atom
  | sig (d : Fin 4)
  | bar
  | barOut
  | cp0
  | cp1
  | cp2
  | land (t : T)
  | tok (t : T)
  | src (t : T)
  | spos (t : T)
  | cred (t : T)
  | sdone (t : T)
  | rpos (t : T)
  | rdone (t : T)
  | keep (t : T)
  deriving DecidableEq

/-- Those a device at depth `z` sends, and those it receives. -/
def sends (z : ℕ) : List T := allT.filter (·.sent z)
def recvs (z : ℕ) : List T := allT.filter (·.rcvd z)

/-- What is sent on from a segment received. -/
def T.kids (t : T) (z : ℕ) : List T :=
  match t.kind with
  | .zR => [yd t.k t.g, xd t.k t.g] ++ bif (t.k.val < 2 && z ≤ 2) then [zR (t.k + 1) t.g] else []
  | .zL => [yd (t.k + 3) t.g, xd (t.k + 3) t.g] ++ bif (t.k.val < 2 && 1 ≤ z) then [zL (t.k + 1) t.g] else []
  | .yd => bif t.g.val < 2 then [xr t.k t.g] else []
  | .xd => bif 2 ≤ t.g.val then [yr t.k (t.g - 2)] else []
  | .xr => []
  | .yr => []

/-- What a step consumes. -/
def Instr.pre : Instr → List Atom
  | .sig d => [.sig d]
  | .bar => [.bar]
  | .copy => [.cp0]
  | .copied => [.cp1]
  | .send t => [.src t, .land t, .tok t]
  | .recv t => [.rpos t]
  | .done t => [.spos t, .cred t]

/-- What a step leaves, on a device at depth `z`. -/
def Instr.post (z : ℕ) : Instr → List Atom
  | .sig _ => []
  | .bar => .barOut :: (sends z).map .land
  | .copy => [.cp1]
  | .copied => [.cp2]
  | .send t => [.cred t]
  | .recv t => .rdone t :: .keep t :: (t.kids z).map .src
  | .done t => [.sdone t]

/-- The level on which a step owes something, if it does. -/
def Instr.owes : Instr → Option ℕ
  | .sig _ => some 0
  | .send t => some (bif t.valid then t.lev else 0)
  | _ => none

/-- The level of the cell a step waits for, if it waits. -/
def Instr.waits : Instr → Option ℕ
  | .bar => some 0
  | .copied => some 100
  | .recv t => some t.lev
  | .done _ => some 100
  | _ => none

/-- Everything owed by the steps of `l` lies above level `n`. -/
def above (n : ℕ) (l : List Instr) : Bool := l.all fun i => match i.owes with | some m => decide (n < m) | none => true

/-- A step may be taken with the steps `l` after it. -/
def Instr.ok (i : Instr) (l : List Instr) : Bool := match i.waits with | some n => above n l | none => true

/-- Take the atoms `p` out of `s`. -/
def takeOut : List Atom → List Atom → Option (List Atom)
  | [], s => some s
  | a :: p, s => if a ∈ s then takeOut p (s.erase a) else none

/-- Play the steps on a collection of atoms. -/
def run (z : ℕ) : List Instr → List Atom → Option (List Atom)
  | [], s => some s
  | i :: l, s => bif i.ok l then (takeOut i.pre s).bind fun s' => run z l (i.post z ++ s') else none

/-- What a device holds at the beginning. -/
def init (z : ℕ) : List Atom :=
  [.sig 0, .sig 1, .sig 2, .sig 3, .bar, .cp0]
  ++ ((sends z).filter (·.own)).map .src ++ (sends z).map .tok ++ (sends z).map .spos ++ (recvs z).map .rpos

/-- What it holds at the end. -/
def final (z : ℕ) : List Atom :=
  [.barOut, .cp2] ++ (sends z).map .sdone ++ (recvs z).map .rdone ++ (recvs z).map .keep

/-- The program played from the beginning ends with what is wanted at the end. -/
def plays (z : ℕ) : Bool :=
  match run z (prog z) (init z) with
  | some s => (takeOut (final z) s).isSome
  | none => false

/-- Going to a neighbour and back is staying. -/
theorem nb_opp : ∀ (d : Fin 4) (c : Dv), nb d (nb (opp d) c) = c := by decide +kernel

theorem opp_nb : ∀ (d : Fin 4) (c : Dv), nb (opp d) (nb d c) = c := by decide +kernel

theorem opp_opp : ∀ d : Fin 4, opp (opp d) = d := by decide

theorem T.dst_src (t : T) (c : Dv) : t.dst (t.src c) = c := nb_opp _ _

theorem T.src_dst (t : T) (c : Dv) : t.src (t.dst c) = c := opp_nb _ _

/-- What one device receives, the other sends. -/
theorem rcvd_eq : ∀ (t : T) (c : Dv), t.rcvd (zc c) = t.sent (zc (t.src c)) := by decide +kernel

theorem sent_eq (t : T) (c : Dv) : t.sent (zc c) = t.rcvd (zc (t.dst c)) := by
  rw [rcvd_eq, T.src_dst]

end Cert.Gather
-- ==== Proof.Sched.lean ====
/-
`Sched`: the plan of `Plan` tied to the printed program's memory and semaphores.

The regions of the result that transfers move, the contents they are to hold, the semaphores each transfer uses, and
the schedule under which the devices hand each other those regions: every cell has one round; a barrier cell has four
duties, one for each neighbour, whose payload is the places on that neighbour where the cell's device may write; a
receive cell has one duty, whose payload is the rows that arrive with the contents they are to have; a departure cell
has one duty of no payload, and the cell of the local copy one whose payload is the device's own block of the result.
-/
module

public import proofs.«01_k».proof.Proof.Plan
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the gather's, whose duties are the four directions -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

/-- The semaphore of a transfer's departure, and that of its arrival. -/
def sndS (t : T) : Fin 193 :=
  match t.kind with
  | .zR => Fin.ofNat 193 (1 + 4 * t.k.val + t.g.val)
  | .zL => Fin.ofNat 193 (25 + 4 * t.k.val + t.g.val)
  | .yd => Fin.ofNat 193 (49 + 4 * t.k.val + t.g.val)
  | .xd => Fin.ofNat 193 (97 + 4 * t.k.val + t.g.val)
  | .xr => Fin.ofNat 193 (145 + 2 * t.k.val + t.g.val)
  | .yr => Fin.ofNat 193 (169 + 2 * t.k.val + t.g.val)
def rcvS (t : T) : Fin 193 :=
  match t.kind with
  | .zR => Fin.ofNat 193 (13 + 4 * t.k.val + t.g.val)
  | .zL => Fin.ofNat 193 (37 + 4 * t.k.val + t.g.val)
  | .yd => Fin.ofNat 193 (73 + 4 * t.k.val + t.g.val)
  | .xd => Fin.ofNat 193 (121 + 4 * t.k.val + t.g.val)
  | .xr => Fin.ofNat 193 (157 + 2 * t.k.val + t.g.val)
  | .yr => Fin.ofNat 193 (181 + 2 * t.k.val + t.g.val)

/-- What a semaphore is for: the local copy, a departure, or an arrival. -/
inductive Role
  | cp
  | snd (t : T)
  | rcv (t : T)
  deriving DecidableEq

/-- A transfer by kind and place in its semaphore array, four or two to a row. -/
def mk4 (q : Kind) (n : ℕ) : T := ⟨q, Fin.ofNat 6 (n / 4), Fin.ofNat 4 (n % 4)⟩
def mk2 (q : Kind) (n : ℕ) : T := ⟨q, Fin.ofNat 6 (n / 2), Fin.ofNat 4 (n % 2)⟩

def role (i : Fin 193) : Role :=
  if i.val < 1 then .cp
  else if i.val < 13 then .snd (mk4 .zR (i.val - 1))
  else if i.val < 25 then .rcv (mk4 .zR (i.val - 13))
  else if i.val < 37 then .snd (mk4 .zL (i.val - 25))
  else if i.val < 49 then .rcv (mk4 .zL (i.val - 37))
  else if i.val < 73 then .snd (mk4 .yd (i.val - 49))
  else if i.val < 97 then .rcv (mk4 .yd (i.val - 73))
  else if i.val < 121 then .snd (mk4 .xd (i.val - 97))
  else if i.val < 145 then .rcv (mk4 .xd (i.val - 121))
  else if i.val < 157 then .snd (mk2 .xr (i.val - 145))
  else if i.val < 169 then .rcv (mk2 .xr (i.val - 157))
  else if i.val < 181 then .snd (mk2 .yr (i.val - 169))
  else .rcv (mk2 .yr (i.val - 181))

theorem role_snd : ∀ t : T, t.valid = true → role (sndS t) = .snd t := by decide +kernel
theorem role_rcv : ∀ t : T, t.valid = true → role (rcvS t) = .rcv t := by decide +kernel

/-- A transfer sent or received anywhere is one of the ninety-six. -/
theorem valid_of_sent (t : T) (z : ℕ) (h : t.sent z = true) : t.valid = true := by
  rcases t with ⟨q, k, g⟩
  cases q <;> simp_all [T.sent, T.valid]
theorem valid_of_rcvd (t : T) (z : ℕ) (h : t.rcvd z = true) : t.valid = true := by
  rcases t with ⟨q, k, g⟩
  cases q <;> simp_all [T.rcvd, T.valid]

/-- The runtime's barrier semaphore. -/
abbrev barS : Sem sig := (SemArray.scalar (sig.barrier 0 rfl) : Sems sig S_).sem

abbrev barCell (c : Dev nD) : GSem nD τ sig := ((c : Thread nD τ), .reg barS)
abbrev dmaCell (c : Dev nD) (i : Fin 193) : GSem nD τ sig := ((c : Thread nD τ), .dma i)
abbrev sndCell (c : Dev nD) (t : T) : GSem nD τ sig := dmaCell c (sndS t)
abbrev rcvCell (c : Dev nD) (t : T) : GSem nD τ sig := dmaCell c (rcvS t)
abbrev cpCell (c : Dev nD) : GSem nD τ sig := dmaCell c 0

/-! ## The memory -/

abbrev xM : Memref sig .tc .hbm S4096x1024 .f32 := Memref.whole main_arg0
abbrev oM : Memref sig .tc .hbm S16384x1024 .f32 := Memref.whole main_v1

abbrev xL (c : Dev nD) : Loc nD τ sig := (c : Thread nD τ).loc main_arg0
abbrev oL (c : Dev nD) : Loc nD τ sig := (c : Thread nD τ).loc main_v1

/-- `n` rows of the result from row `r` on, and of the operand. -/
def rowsO (r n : ℕ) : Finset (S16384x1024.Idx) := Finset.univ.filter fun i => r ≤ (i 0).val ∧ (i 0).val < r + n
def rowsX (r n : ℕ) : Finset (S4096x1024.Idx) := Finset.univ.filter fun i => r ≤ (i 0).val ∧ (i 0).val < r + n

theorem mem_rowsO {r n : ℕ} {i : S16384x1024.Idx} : i ∈ rowsO r n ↔ r ≤ (i 0).val ∧ (i 0).val < r + n := by
  simp [rowsO]
theorem mem_rowsX {r n : ℕ} {i : S4096x1024.Idx} : i ∈ rowsX r n ↔ r ≤ (i 0).val ∧ (i 0).val < r + n := by
  simp [rowsX]

/-- The elements under a slice of 256 rows of the result are those rows, -/
theorem set_seg (r : ℕ) (inb) (h) :
    (oM.slice (Rect.unit (s := S16384x1024) ![r, 0] S256x1024.size inb) h).view.set = rowsO r 256 := by
  show ((View.whole main_v1).slice _).set = _
  rw [View.set_slice_whole]
  ext i
  rw [Rect.mem_set_unit, mem_rowsO]
  exact ⟨fun h => h 0, fun h => Fin.forall_fin_two.mpr ⟨h, Nat.zero_le _, (i 1).isLt.trans_le (Nat.le_add_left _ _)⟩⟩

/-- as of a slice of 4096 rows of it, -/
theorem set_blk (r : ℕ) (inb) (h) :
    (oM.slice (Rect.unit (s := S16384x1024) ![r, 0] S4096x1024.size inb) h).view.set = rowsO r 4096 := by
  show ((View.whole main_v1).slice _).set = _
  rw [View.set_slice_whole]
  ext i
  rw [Rect.mem_set_unit, mem_rowsO]
  exact ⟨fun h => h 0, fun h => Fin.forall_fin_two.mpr ⟨h, Nat.zero_le _, (i 1).isLt.trans_le (Nat.le_add_left _ _)⟩⟩

/-- and of one of 256 rows of the operand. -/
theorem set_xseg (r : ℕ) (inb) (h) :
    (xM.slice (Rect.unit (s := S4096x1024) ![r, 0] S256x1024.size inb) h).view.set = rowsX r 256 := by
  show ((View.whole main_arg0).slice _).set = _
  rw [View.set_slice_whole]
  ext i
  rw [Rect.mem_set_unit, mem_rowsX]
  exact ⟨fun h => h 0, fun h => Fin.forall_fin_two.mpr ⟨h, Nat.zero_le _, (i 1).isLt.trans_le (Nat.le_add_left _ _)⟩⟩

/-! ## The contents -/

/-- The row of a block in which a row of the result lies. -/
def inBlk (i : S16384x1024.Idx) : S4096x1024.Idx := fun a =>
  match a with
  | ⟨0, _⟩ => (⟨(i 0).val % 4096, Nat.mod_lt _ (by decide)⟩ : Fin 4096)
  | ⟨1, _⟩ => (⟨(i 1).val, (i 1).isLt⟩ : Fin 1024)

/-- The device from whose operand row `i` of the result comes, on a device standing with `c` along `y`: the depth is the
    block's, and of the four devices of the two `y` pairs the one whose quarter it is. -/
def srcDev (c : Dev nD) (r : ℕ) : Dev nD :=
  ⟨(16 * (r % 4096 / 1024 / 2) + 4 * (2 * (c.val % 16 / 8) + r % 4096 / 1024 % 2) + r / 4096) % 32, Nat.mod_lt _ (by decide)⟩

/-- What the transfers bring to device `c`. -/
def W (c : Dev nD) : Buf (Elt F) (oL c) := fun i => m (xL (srcDev c (i 0).val)) (inBlk i)

/-- What the local copy brings: the device's own operand. -/
def own (c : Dev nD) : Buf (Elt F) (oL c) := fun i => m (xL c) (inBlk i)

/-- Neighbours stand alike. -/
theorem srcDev_nb : ∀ (d : Fin 4) (c : Dev nD), (nb d c).val % 16 / 8 = c.val % 16 / 8 := by decide +kernel

theorem W_nb (d : Fin 4) (c : Dev nD) (i : S16384x1024.Idx) : W m (nb d c) i = W m c i := by
  have h : srcDev (nb d c) (i 0).val = srcDev c (i 0).val := by
    apply Fin.ext
    show (_ + 4 * (2 * ((nb d c).val % 16 / 8) + _) + _) % 32 = _
    rw [srcDev_nb d c]; rfl
  unfold W; rw [h]

/-- The first step along `z` reads what the rows are to hold. -/
theorem W_own (t : T) (c : Dev nD) (h : t.own = true) (hv : t.valid = true) (i : S16384x1024.Idx) (hi : i ∈ rowsO (t.row c) 256) :
    W m c i = own m c i ∧ (i 0).val % 4096 = t.xrow c + ((i 0).val - t.row c) := by
  rw [mem_rowsO] at hi
  have hc : c.val < 32 := c.isLt
  have hg := t.g.isLt
  have hrow : t.row c = c.val % 4 * 4096 + (2 * (c.val / 16) + c.val / 4 % 2) * 1024 + t.g.val * 256 := by
    rcases t with ⟨q, k, g⟩
    cases q <;> simp [T.own] at h <;> simp [T.row, zc, quarter, h]
  have hx : t.xrow c = (2 * (c.val / 16) + c.val / 4 % 2) * 1024 + t.g.val * 256 := rfl
  have h1 : (i 0).val % 4096 = t.xrow c + ((i 0).val - t.row c) := by omega
  refine ⟨?_, h1⟩
  have : srcDev c (i 0).val = c := by
    apply Fin.ext
    show (16 * ((i 0).val % 4096 / 1024 / 2) + 4 * (2 * (c.val % 16 / 8) + (i 0).val % 4096 / 1024 % 2) + (i 0).val / 4096) % 32 = c.val
    have h2 : (i 0).val / 4096 = c.val % 4 := by omega
    have h3 : (i 0).val % 4096 / 1024 = 2 * (c.val / 16) + c.val / 4 % 2 := by omega
    rw [h2, h3]
    omega
  unfold W own
  rw [this]

/-! ## What lands -/

section Land

variable (r : ℕ) (inb) (h)

/-- A segment of the result written with what was read from the same segment elsewhere. -/
theorem land_out (t : T) (c : Dev nD) (fd : Buf (Elt F) (oL (t.dst c))) (i) (hi : i ∈ rowsO r 256) :
    (oM.slice (Rect.unit (s := S16384x1024) ![r, 0] S256x1024.size inb) h).view.write (Elt F) fd
      ((oM.slice (Rect.unit (s := S16384x1024) ![r, 0] S256x1024.size inb) h).view.read (Elt F) (W m c)) Finset.univ i
      = W m (t.dst c) i := by
  rw [← set_seg r inb h] at hi
  obtain ⟨x, -, rfl⟩ := Finset.mem_map.mp hi
  rw [View.write_emb_of_mem (h := Finset.mem_univ x)]
  exact (W_nb m t.dir c _).symm

/-- A segment of the result written with what was read from the operand. -/
theorem land_x (t : T) (c : Dev nD) (ho : t.own = true) (hv : t.valid = true) (inb') (h') (inb'') (h'')
    (fd : Buf (Elt F) (oL (t.dst c))) (i) (hi : i ∈ rowsO (t.row c) 256) :
    (oM.slice (Rect.unit (s := S16384x1024) ![t.row c, 0] S256x1024.size inb') h').view.write (Elt F) fd
      ((xM.slice (Rect.unit (s := S4096x1024) ![t.xrow c, 0] S256x1024.size inb'') h'').view.read (Elt F) (m (xL c))) Finset.univ i
      = W m (t.dst c) i := by
  have hw := W_own m t c ho hv i hi
  rw [← set_seg (t.row c) inb' h'] at hi
  obtain ⟨x, -, rfl⟩ := Finset.mem_map.mp hi
  rw [View.write_emb_of_mem (h := Finset.mem_univ x)]
  refine Eq.trans ?_ (W_nb m t.dir c _).symm
  rw [hw.1]
  refine congrArg (m (xL c)) (funext fun a => ?_)
  have hw2 := hw.2
  fin_cases a
  · refine Fin.ext ?_
    show t.xrow c + 1 * (x 0).val = (t.row c + 1 * (x 0).val) % 4096
    have h1 : (t.row c + 1 * (x 0).val) % 4096 = t.xrow c + ((t.row c + 1 * (x 0).val) - t.row c) := hw2
    omega
  · rfl

/-- The block of a device written with its operand. -/
theorem land_cp (c : Dev nD) (r : ℕ) (hr : r = zc c * 4096) (inb) (h) (fd : Buf (Elt F) (oL c)) (i) (hi : i ∈ rowsO r 4096) :
    (oM.slice (Rect.unit (s := S16384x1024) ![r, 0] S4096x1024.size inb) h).view.write (Elt F) fd
      (xM.view.read (Elt F) (m (xL c))) Finset.univ i = own m c i := by
  rw [← set_blk r inb h] at hi
  obtain ⟨x, -, rfl⟩ := Finset.mem_map.mp hi
  rw [View.write_emb_of_mem (h := Finset.mem_univ x)]
  refine congrArg (m (xL c)) (funext fun a => ?_)
  fin_cases a
  · refine Fin.ext ?_
    show (x 0).val = (r + 1 * (x 0).val) % 4096
    have h1 : (x 0).val < 4096 := (x 0).isLt
    omega
  · refine Fin.ext ?_
    show (x 1).val = 0 + 1 * (x 1).val
    omega

end Land

/-! ## The schedule -/

theorem inb_seg : ∀ a : Fin 2, (![0, 0] : Fin 2 → ℕ) a + S256x1024.size a ≤ S16384x1024.size a := by decide
theorem inb_blk : ∀ a : Fin 2, (![0, 0] : Fin 2 → ℕ) a + S4096x1024.size a ≤ S16384x1024.size a := by decide

/-- The credit of a segment of 256 rows, and of a block. -/
def N : ℕ := (oM.slice (Rect.unit (s := S16384x1024) ![0, 0] S256x1024.size inb_seg) (fun _ => rfl)).view.dmaCredit
def Nc : ℕ := (oM.slice (Rect.unit (s := S16384x1024) ![0, 0] S4096x1024.size inb_blk) (fun _ => rfl)).view.dmaCredit
theorem N_pos : 0 < N := View.dmaCredit_pos _ (by decide)
theorem Nc_pos : 0 < Nc := View.dmaCredit_pos _ (by decide)
attribute [irreducible] N Nc

/-- The place where transfer `t` of device `c` arrives. -/
def landP (t : T) (c : Dev nD) : sProp 𝕄 := iprop(∃ f : Buf (Elt F) (oL (t.dst c)), oL (t.dst c) ↦[rowsO (t.row c) 256]{fullShare} f)

/-- What neighbour `d`'s signal hands device `c`: the places on that neighbour where `c` may write. -/
def barPay (c : Dev nD) (d : Fin 4) : sProp 𝕄 := bigSepL ((sends (zc c)).filter fun t => t.dir = d) fun t => landP (F := F) t c

/-- What an arrival brings device `c`, and what the local copy leaves. -/
def rcvPay (c : Dev nD) (t : T) : sProp 𝕄 := oL c ↦[rowsO (t.row (t.src c)) 256]{fullShare} W m c
def cpPay (c : Dev nD) : sProp 𝕄 := oL c ↦[rowsO (zc c * 4096) 4096]{fullShare} own m c

instance landP_storable (t : T) (c : Dev nD) : BI.Storable (upEmb : UEmb _ 𝕄) (landP (F := F) t c) := by unfold landP; infer_instance
instance rcvPay_storable (c : Dev nD) (t : T) : BI.Storable (upEmb : UEmb _ 𝕄) (rcvPay m c t) := by unfold rcvPay; infer_instance
instance cpPay_storable (c : Dev nD) : BI.Storable (upEmb : UEmb _ 𝕄) (cpPay m c) := by unfold cpPay; infer_instance
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => show BI.Storable _ (iprop(emp) : sProp 𝕄); infer_instance
  | cons i l ih => rw [bigSepL_cons']; have := h i; infer_instance
instance barPay_storable (c : Dev nD) (d : Fin 4) : BI.Storable (upEmb : UEmb _ 𝕄) (barPay (F := F) c d) :=
  bigSepL_storable _ _ fun _ => inferInstance

/-- The duties, the amount and the payload of a device's cells. -/
def dut (z : ℕ) : SemLoc sig → Finset (Fin 4)
  | .reg _ => Finset.univ
  | .dma i => match role i with
    | .cp => {0}
    | .snd t => if t.sent z = true then {0} else ∅
    | .rcv t => if t.rcvd z = true then {0} else ∅
def amt : SemLoc sig → ℕ
  | .reg _ => 1
  | .dma i => match role i with
    | .cp => Nc
    | .snd _ => N
    | .rcv _ => N
def pay (c : Dev nD) (d : Fin 4) : SemLoc sig → sProp 𝕄
  | .reg _ => barPay c d
  | .dma i => match role i with
    | .cp => cpPay m c
    | .snd _ => iprop(emp)
    | .rcv t => rcvPay m c t

theorem amt_pos (s : SemLoc sig) : 0 < amt s := by
  unfold amt
  split
  · exact Nat.one_pos
  · split
    · exact Nc_pos
    · exact N_pos
    · exact N_pos

/-- The schedule of the gather: one round. -/
def Rd : Rounds.Schedule (GSem nD τ sig) (Fin 4) 𝕄 where
  duties g r := if r = 0 ∧ g.1.2 = .tc then dut (zc g.1.1) g.2 else ∅
  unitless _ := False
  amount g _ _ := amt g.2
  payload g _ d := pay m g.1.1 d g.2
  amount_pos g _ _ _ := amt_pos g.2

instance Rd_storable (g : GSem nD τ sig) (r : ℕ) (d : Fin 4) : BI.Storable (upEmb : UEmb _ 𝕄) ((Rd (F := F) m).payload g r d) := by
  show BI.Storable upEmb (pay m g.1.1 d g.2)
  unfold pay
  split
  · infer_instance
  · split <;> infer_instance

theorem duties_later (g : GSem nD τ sig) : ∀ r, 1 ≤ r → (Rd (F := F) m).duties g r = ∅ :=
  fun r hr => by dsimp only [Rd]; rw [if_neg fun h => by omega]

theorem duties_tc (c : Dev nD) (s : SemLoc sig) : (Rd (F := F) m).duties ((c : Thread nD τ), s) 0 = dut (zc c) s := by
  dsimp only [Rd]; exact if_pos ⟨rfl, rfl⟩

section Facts
variable (c : Dev nD) (t : T)

theorem duties_bar : (Rd (F := F) m).duties (barCell c) 0 = Finset.univ := duties_tc m c _
theorem duties_cp : (Rd (F := F) m).duties (cpCell c) 0 = {0} := duties_tc m c _
theorem duties_snd (h : t.sent (zc c) = true) : (Rd (F := F) m).duties (sndCell c t) 0 = {0} := by
  rw [duties_tc]; show (match role (sndS t) with | .cp => _ | .snd t => _ | .rcv t => _) = _
  rw [role_snd t (valid_of_sent t _ h)]; exact if_pos h
theorem duties_rcv (h : t.rcvd (zc c) = true) : (Rd (F := F) m).duties (rcvCell c t) 0 = {0} := by
  rw [duties_tc]; show (match role (rcvS t) with | .cp => _ | .snd t => _ | .rcv t => _) = _
  rw [role_rcv t (valid_of_rcvd t _ h)]; exact if_pos h

theorem amount_bar (d : Fin 4) : (Rd (F := F) m).amount (barCell c) 0 d = 1 := rfl
theorem amount_cp (d : Fin 4) : (Rd (F := F) m).amount (cpCell c) 0 d = Nc := rfl
theorem amount_snd (h : t.valid = true) (d : Fin 4) : (Rd (F := F) m).amount (sndCell c t) 0 d = N := by
  show (match role (sndS t) with | .cp => Nc | .snd _ => N | .rcv _ => N) = _
  rw [role_snd t h]
theorem amount_rcv (h : t.valid = true) (d : Fin 4) : (Rd (F := F) m).amount (rcvCell c t) 0 d = N := by
  show (match role (rcvS t) with | .cp => Nc | .snd _ => N | .rcv _ => N) = _
  rw [role_rcv t h]

theorem payload_bar (d : Fin 4) : (Rd (F := F) m).payload (barCell c) 0 d = barPay c d := rfl
theorem payload_cp (d : Fin 4) : (Rd (F := F) m).payload (cpCell c) 0 d = cpPay m c := rfl
theorem payload_snd (h : t.valid = true) (d : Fin 4) : (Rd (F := F) m).payload (sndCell c t) 0 d = iprop(emp) := by
  show (match role (sndS t) with | .cp => cpPay m c | .snd _ => iprop(emp) | .rcv t => rcvPay m c t) = _
  rw [role_snd t h]
theorem payload_rcv (h : t.valid = true) (d : Fin 4) : (Rd (F := F) m).payload (rcvCell c t) 0 d = rcvPay m c t := by
  show (match role (rcvS t) with | .cp => cpPay m c | .snd _ => iprop(emp) | .rcv t => rcvPay m c t) = _
  rw [role_rcv t h]

theorem expect_bar : (Rd (F := F) m).expect (barCell c) 0 = 4 := by
  unfold Schedule.expect Schedule.amountOf
  rw [duties_bar, Finset.sum_congr rfl fun d _ => amount_bar m c d, Finset.sum_const, Finset.card_univ, Fintype.card_fin, smul_eq_mul]
theorem expect_one (g : GSem nD τ sig) (h : (Rd (F := F) m).duties g 0 = {0}) : (Rd (F := F) m).expect g 0 = (Rd (F := F) m).amount g 0 0 := by
  unfold Schedule.expect Schedule.amountOf
  rw [h, Finset.sum_singleton]
theorem expect_cp : (Rd (F := F) m).expect (cpCell c) 0 = Nc := (expect_one m _ (duties_cp m c)).trans (amount_cp m c 0)
theorem expect_snd (h : t.sent (zc c) = true) : (Rd (F := F) m).expect (sndCell c t) 0 = N :=
  (expect_one m _ (duties_snd m c t h)).trans (amount_snd m c t (valid_of_sent t _ h) 0)
theorem expect_rcv (h : t.rcvd (zc c) = true) : (Rd (F := F) m).expect (rcvCell c t) 0 = N :=
  (expect_one m _ (duties_rcv m c t h)).trans (amount_rcv m c t (valid_of_rcvd t _ h) 0)

/-- What a wait for a whole round brings. -/
theorem rest_bar : bigSep ((Rd (F := F) m).duties (barCell c) 0 \ ∅) (fun d => (Rd (F := F) m).payload (barCell c) 0 d)
    = iprop(barPay c 0 ∗ barPay c 1 ∗ barPay c 2 ∗ barPay c 3) := by
  rw [Finset.sdiff_empty, duties_bar, bigSep_univ_eq_bigSepL [0, 1, 2, 3] (by decide) (by decide)]
  rfl
theorem rest_cp : bigSep ((Rd (F := F) m).duties (cpCell c) 0 \ ∅) (fun d => (Rd (F := F) m).payload (cpCell c) 0 d) = cpPay m c := by
  rw [Finset.sdiff_empty, duties_cp, bigSep_singleton, payload_cp]
theorem rest_rcv (h : t.rcvd (zc c) = true) :
    bigSep ((Rd (F := F) m).duties (rcvCell c t) 0 \ ∅) (fun d => (Rd (F := F) m).payload (rcvCell c t) 0 d) = rcvPay m c t := by
  rw [Finset.sdiff_empty, duties_rcv m c t h, bigSep_singleton, payload_rcv m c t (valid_of_rcvd t _ h)]

end Facts

/-! ## What is owed, and the levels -/

/-- What a step pays. -/
def paid (c : Dev nD) : Instr → CellTallies nD τ sig Unit
  | .sig d => tallyAt (barCell (nb d c)) () 1
  | .send t => tallyAt (rcvCell (t.dst c) t) () N
  | _ => 0

/-- What a device owes while the steps `l` are to come. -/
def O (c : Dev nD) (l : List Instr) : CellTallies nD τ sig Unit := (l.map (paid c)).sum

theorem O_cons (c : Dev nD) (i : Instr) (l : List Instr) : O c (i :: l) = O c l + paid c i := by
  unfold O; rw [List.map_cons, List.sum_cons, add_comm]

def L (g : GSem nD τ sig) : Finset Unit := if g.1.2 = .tc then {()} else ∅
def lvS : SemLoc sig → ℕ
  | .reg _ => 0
  | .dma i => match role i with
    | .cp => 100
    | .snd _ => 100
    | .rcv t => t.lev
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_snd (c : Dev nD) (t : T) (h : t.valid = true) : lvS (.dma (sndS t)) = 100 := by
  show (match role (sndS t) with | .cp => 100 | .snd _ => 100 | .rcv t => t.lev) = _
  rw [role_snd t h]
theorem lv_rcv (c : Dev nD) (t : T) (h : t.valid = true) : lvS (.dma (rcvS t)) = t.lev := by
  show (match role (rcvS t) with | .cp => 100 | .snd _ => 100 | .rcv t => t.lev) = _
  rw [role_rcv t h]

/-- What is owed is owed by some step to come. -/
theorem O_pos (c : Dev nD) (l : List Instr) (g : GSem nD τ sig) (u : Unit) (h : 0 < O c l g u) : ∃ i ∈ l, 0 < paid c i g u := by
  induction l with
  | nil => exact absurd h (Nat.lt_irrefl 0)
  | cons i l ih =>
    rw [O_cons, Pi.add_apply, Finsupp.add_apply] at h
    by_cases hi : 0 < paid c i g u
    · exact ⟨i, List.mem_cons_self, hi⟩
    · obtain ⟨j, hj, hp⟩ := ih (by omega)
      exact ⟨j, List.mem_cons_of_mem _ hj, hp⟩

theorem tallyAt_pos {g g' : GSem nD τ sig} {u u' : Unit} {n : ℕ} (h : 0 < tallyAt g u n g' u') : g' = g := by
  rw [tallyAt_apply] at h
  by_contra hn
  rw [if_neg (fun h' => hn h'.1)] at h
  exact Nat.lt_irrefl 0 h

/-- Everything owed by steps above level `n` lies on cells above it. -/
theorem O_above (c : Dev nD) (l : List Instr) (n : ℕ) (ha : above n l = true) (g : GSem nD τ sig) (u : Unit) (h : 0 < O c l g u) :
    g.1.2 = .tc ∧ n < lv g u := by
  obtain ⟨i, hi, hp⟩ := O_pos c l g u h
  have hl := List.all_eq_true.mp ha i hi
  cases i with
  | sig d => simp [Instr.owes] at hl
  | send t =>
    have hg := tallyAt_pos hp
    subst hg
    refine ⟨rfl, ?_⟩
    simp only [Instr.owes, decide_eq_true_eq] at hl
    cases hv : t.valid with
    | false => rw [hv] at hl; exact absurd hl (Nat.not_lt_zero _)
    | true => rw [hv] at hl; show n < lvS _; rw [lv_rcv c t hv]; exact hl
  | _ => exact absurd hp (Nat.lt_irrefl 0)

/-- A device may wait for a cell of its own on a level below all it owes. -/
theorem mayWait (c : Dev nD) (l : List Instr) (n : ℕ) (ha : above n l = true) (s : SemLoc sig) (hs : lvS s = n) :
    (levAts L lv : sProp 𝕄) ⊢ MayWait (c : Thread nD τ) s () (O c l) :=
  MayOwe.of_cut (L := L) (lev := lv) n
    (fun p hp => by rw [Finset.mem_singleton.mp hp, L_tc]; exact Finset.mem_singleton_self _)
    (fun g u hg => by unfold L; rw [if_pos (O_above c l n ha g u hg).1]; exact Finset.mem_singleton_self _)
    (fun p hp => by rw [Finset.mem_singleton.mp hp]; show lvS s ≤ n; rw [hs])
    (fun g u hg => (O_above c l n ha g u hg).2)

end Cert.Gather

end
-- ==== Proof.Steps.lean ====
/-
`Steps`: the meaning of the atoms of `Plan`, and the rule of each step.

`interp` reads an atom as an assertion about one device; `Sat` says that a piece of program may be run by a device with
the steps `l` still to come; `Does` that a piece of program carries out the first steps of a list. There is one rule
for each kind of step, and rules for sequencing and for a conditional block.
-/
module

public import proofs.«01_k».proof.Proof.Sched

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The atoms' meaning -/

/-- The share of what it reads that a transfer is given. -/
def T.share (t : T) : PosShare TreeShare :=
  match t.kind with
  | .zR => if t.k.val = 0 then fullShare.right.right.left else fullShare.right.right.right
  | .zL => fullShare.right.right.right
  | .yd => fullShare.right.left
  | .xd => fullShare.right.right.left
  | .xr => fullShare.right.left
  | .yr => fullShare.right.left

/-- What a transfer reads. -/
def srcP (c : Dev nD) (t : T) : sProp 𝕄 :=
  if t.own = true then (xL c ↦[rowsX (t.xrow c) 256]{t.share} m (xL c)) else (oL c ↦[rowsO (t.row c) 256]{t.share} W m c)

/-- The rows a transfer brought. -/
def keepP (c : Dev nD) (t : T) : sProp 𝕄 := oL c ↦[rowsO (t.row (t.src c)) 256]{fullShare.left} W m c

def interp (c : Dev nD) : Atom → sProp 𝕄
  | .sig d => iprop(dutyTok ER (barCell (nb d c)) 0 (opp d) ∗ barPay (F := F) (nb d c) (opp d))
  | .bar => iprop(atPos ER (barCell c) 0 ∅ 0 ∗ cred (tallyAt (barCell c) () 4))
  | .barOut => atPos ER (barCell c) 1 ∅ 0
  | .cp0 => iprop(dutyTok ER (cpCell c) 0 0 ∗ atPos ER (cpCell c) 0 ∅ 0 ∗ (xL c ↦{fullShare.right.left} m (xL c))
      ∗ ∃ f : Buf (Elt F) (oL c), oL c ↦[rowsO (zc c * 4096) 4096]{fullShare} f)
  | .cp1 => iprop(atPos ER (cpCell c) 0 ∅ 0 ∗ cred (tallyAt (cpCell c) () Nc))
  | .cp2 => iprop(atPos ER (cpCell c) 1 ∅ 0 ∗ cpPay m c)
  | .land t => landP (F := F) t c
  | .tok t => iprop(⌜t.sent (zc c) = true⌝ ∗ dutyTok ER (sndCell c t) 0 0 ∗ dutyTok ER (rcvCell (t.dst c) t) 0 0)
  | .src t => srcP m c t
  | .spos t => iprop(⌜t.sent (zc c) = true⌝ ∗ atPos ER (sndCell c t) 0 ∅ 0)
  | .cred t => cred (tallyAt (sndCell c t) () N)
  | .sdone t => atPos ER (sndCell c t) 1 ∅ 0
  | .rpos t => iprop(⌜t.rcvd (zc c) = true⌝ ∗ atPos ER (rcvCell c t) 0 ∅ 0 ∗ cred (tallyAt (rcvCell c t) () N))
  | .rdone t => atPos ER (rcvCell c t) 1 ∅ 0
  | .keep t => keepP m c t

/-! ## The facts every device has -/

/-- All cells. -/
abbrev kcell (x : Dev nD × Option (Fin 193)) : GSem nD τ sig :=
  match x.2 with
  | none => barCell x.1
  | some i => dmaCell x.1 i

/-- A cell's invariant, with that its round has begun. -/
def fact (K : Dev nD × Option (Fin 193) → ℕ) (x : Dev nD × Option (Fin 193)) : sProp 𝕄 :=
  iprop(cellInv ER (Rd m) (K x) (kcell x) ∗ reached ER (kcell x) 0)

instance fact_persistent (K : Dev nD × Option (Fin 193) → ℕ) (x) : BI.Persistent (fact m K x) := by unfold fact; infer_instance

def facts (K : Dev nD × Option (Fin 193) → ℕ) : sProp 𝕄 := iprop(bigSep Finset.univ (fact m K) ∗ levAts L lv)

instance facts_persistent (K : Dev nD × Option (Fin 193) → ℕ) : BI.Persistent (facts m K) := by unfold facts; infer_instance

variable (K : Dev nD × Option (Fin 193) → ℕ)

theorem fact_at (x : Dev nD × Option (Fin 193)) : facts m K ⊢ iprop(cellInv ER (Rd m) (K x) (kcell x) ∗ reached ER (kcell x) 0) := by
  unfold facts
  have h : bigSep Finset.univ (fact m K) ⊢ iprop(cellInv ER (Rd m) (K x) (kcell x) ∗ reached ER (kcell x) 0) := bigSep_elim (Finset.mem_univ x)
  iintro ⟨H, -⟩
  iapply h $$ H

/-- A device may wait for a cell of its own on a level below all it owes. -/
theorem may_wait (c : Dev nD) (l : List Instr) (n : ℕ) (ha : above n l = true) (s : SemLoc sig) (hs : lvS s = n) :
    facts m K ⊢ (MayWait (c : Thread nD τ) s () (O c l) : sProp 𝕄) := by
  have h := mayWait (F := F) c l n ha s hs
  unfold facts
  iintro ⟨-, H⟩; iapply h; iexact H

/-! ## Chains of atoms -/

theorem sep_swap (A B C : sProp 𝕄) : iprop(A ∗ B ∗ C) ⊢ iprop(B ∗ A ∗ C) := by
  iintro ⟨H1, H2, H3⟩; isplitl [H2]; · iexact H2
  isplitl [H1] <;> iassumption

theorem bigSepL_of_perm {I : Type} {l l' : List I} (h : l.Perm l') (Φ : I → sProp 𝕄) : bigSepL l Φ = bigSepL l' Φ := by
  induction h with
  | nil => rfl
  | cons x _ ih => rw [bigSepL_cons', bigSepL_cons', ih]
  | swap x y l =>
    rw [bigSepL_cons', bigSepL_cons', bigSepL_cons', bigSepL_cons']
    exact (sep_swap _ _ _).antisymm (sep_swap _ _ _)
  | trans _ _ ih1 ih2 => exact ih1.trans ih2

/-- Taking atoms out of a list takes them out of the chain. -/
theorem takeOut_sound (Φ : Atom → sProp 𝕄) : ∀ (p s s' : List Atom), takeOut p s = some s' →
    bigSepL s Φ ⊢ iprop(bigSepL p Φ ∗ bigSepL s' Φ) := by
  intro p
  induction p with
  | nil =>
    intro s s' h
    obtain rfl : s = s' := by simpa [takeOut] using h
    rw [bigSepL_nil]
    iintro H; isplitr; · iempintro
    iexact H
  | cons a p ih =>
    intro s s' h
    unfold takeOut at h
    by_cases ha : a ∈ s
    · rw [if_pos ha] at h
      rw [bigSepL_of_perm (List.perm_cons_erase ha) Φ, bigSepL_cons', bigSepL_cons']
      iintro ⟨Ha, Hs⟩
      ihave H := (ih _ _ h) $$ Hs
      icases H with ⟨Hp, Hs⟩
      isplitl [Ha Hp]
      · isplitl [Ha] <;> iassumption
      iexact Hs
    · rw [if_neg ha] at h; exact absurd h (by simp)

/-- The four hand-overs of the barrier, put in the order of the transfers. -/
theorem lands_eq (c : Dev nD) : ∀ l : List T, iprop(bigSepL (l.filter fun t => t.dir = 0) (fun t => landP (F := F) t c)
      ∗ bigSepL (l.filter fun t => t.dir = 1) (fun t => landP (F := F) t c) ∗ bigSepL (l.filter fun t => t.dir = 2) (fun t => landP (F := F) t c)
      ∗ bigSepL (l.filter fun t => t.dir = 3) (fun t => landP (F := F) t c))
    ⊢ bigSepL l (fun t => landP (F := F) t c) := by
  intro l
  induction l with
  | nil => simp only [List.filter_nil, bigSepL_nil]; iintro ⟨-, -, -, -⟩; iempintro
  | cons t l ih =>
    rw [bigSepL_cons']
    have hd : t.dir = 0 ∨ t.dir = 1 ∨ t.dir = 2 ∨ t.dir = 3 := by generalize t.dir = d; revert d; decide
    rcases hd with h | h | h | h <;> simp only [List.filter_cons, h] <;> simp (config := { decide := true }) only [if_true, if_false]
    all_goals first
      | rw [bigSepL_cons']
      | skip
    · iintro ⟨⟨H, H0⟩, H1, H2, H3⟩
      isplitl [H]; · iexact H
      iapply ih; isplitl [H0]; · iexact H0
      isplitl [H1]; · iexact H1
      isplitl [H2] <;> iassumption
    · iintro ⟨H0, ⟨H, H1⟩, H2, H3⟩
      isplitl [H]; · iexact H
      iapply ih; isplitl [H0]; · iexact H0
      isplitl [H1]; · iexact H1
      isplitl [H2] <;> iassumption
    · iintro ⟨H0, H1, ⟨H, H2⟩, H3⟩
      isplitl [H]; · iexact H
      iapply ih; isplitl [H0]; · iexact H0
      isplitl [H1]; · iexact H1
      isplitl [H2] <;> iassumption
    · iintro ⟨H0, H1, H2, H, H3⟩
      isplitl [H]; · iexact H
      iapply ih; isplitl [H0]; · iexact H0
      isplitl [H1]; · iexact H1
      isplitl [H2] <;> iassumption

/-! ## What a program does -/

abbrev Code (F : FTy → Type) (α : Type) := Prog (TpuEff nD τ sig (Elt F) Λ₀ .tc) α
abbrev 𝒱₀ : Variants := Variants.none
abbrev WP (c : Dev nD) (P : Code F PUnit) (Q : PUnit → sProp 𝕄) : sProp 𝕄 :=
  wp frame (wpE (defs₀ (F := F)) 𝒱₀ (c : Thread nD τ) none) Set.univ P Q

/-- Device `c`, with the steps `l` to come and atoms on which they can be played, may run `P`, and ends with the atoms
    the play ends with, owing nothing. -/
def Sat (c : Dev nD) (l : List Instr) (P : Code F PUnit) : Prop :=
  ∀ st s', run (zc c) l st = some s' → ∀ (Q : PUnit → sProp 𝕄) (V : Waits sig Unit),
    iprop(facts m K ∗ bigSepL st (interp m c) ∗ owes (c : Thread nD τ) (O c l) V
        ∗ ((bigSepL s' (interp m c) ∗ ∃ V', owes (c : Thread nD τ) 0 V') -∗ Q ⟨⟩))
      ⊢ WP c P Q

/-- `p` carries out the steps by which `l'` is shorter than `l`, and returns a value of which `Φ` holds. -/
def Does (c : Dev nD) (l l' : List Instr) {α : Type} (p : Code F α) (Φ : α → Prop) : Prop :=
  ∀ k : α → Code F PUnit, (∀ a, Φ a → Sat m K c l' (k a)) → Sat m K c l (p >>= k)

variable {m K} {c : Dev nD}

theorem Does.pure {l : List Instr} {α : Type} {a : α} {Φ : α → Prop} (h : Φ a) : Does m K c l l (Pure.pure a) Φ :=
  fun k hk => by rw [pure_bind]; exact hk a h

theorem Does.bind {l l₁ l₂ : List Instr} {α β : Type} {p : Code F α} {q : α → Code F β} {Φ : α → Prop} {Ψ : β → Prop}
    (hp : Does m K c l l₁ p Φ) (hq : ∀ a, Φ a → Does m K c l₁ l₂ (q a) Ψ) : Does m K c l l₂ (p >>= q) Ψ :=
  fun k hk => by rw [bind_assoc]; exact hp _ fun a ha => hq a ha k hk

theorem Does.mono {l l' : List Instr} {α : Type} {p : Code F α} {Φ Ψ : α → Prop} (hp : Does m K c l l' p Φ) (h : ∀ a, Φ a → Ψ a) :
    Does m K c l l' p Ψ := fun k hk => hp k fun a ha => hk a (h a ha)

/-- A conditional block: its steps when the condition holds, none otherwise. -/
theorem Does.dite {l₁ l' : List Instr} {P : Prop} [Decidable P] (b : Bool) (hb : P ↔ b = true) {α : Type}
    {A : P → Code F α} {B : ¬P → Code F α} {Φ : α → Prop}
    (hA : ∀ h : P, Does m K c (l₁ ++ l') l' (A h) Φ) (hB : ∀ h : ¬P, Does m K c l' l' (B h) Φ) :
    Does m K c (wh b l₁ ++ l') l' (if h : P then A h else B h) Φ := by
  by_cases h : P
  · rw [dif_pos h, hb.mp h]; exact hA h
  · rw [dif_neg h, show b = false from by rw [hb] at h; simpa using h]; exact hB h

theorem Does.deviceId {l : List Instr} : Does m K c l l (Prog.lift .deviceId : Code F (Dev nD)) (fun a => a = c) :=
  fun k hk => by
    rw [Prog.bind_lift]
    intro st s' h Q V
    unfold WP
    rw [wp_deviceId]
    exact hk c rfl st s' h Q V

/-- One operation carries out one step, when it turns the atoms the step consumes into those it leaves. -/
theorem Does.op {i : Instr} {l : List Instr} {e : TpuEff nD τ sig (Elt F) Λ₀ .tc PUnit}
    (h : ∀ (k : PUnit → Code F PUnit) (Q : PUnit → sProp 𝕄) (V : Waits sig Unit), i.ok l = true →
      iprop(facts m K ∗ bigSepL i.pre (interp m c) ∗ owes (c : Thread nD τ) (O c l + paid c i) V)
        ⊢ iprop(((bigSepL (i.post (zc c)) (interp m c) ∗ ∃ V', owes (c : Thread nD τ) (O c l) V') -∗ WP c (k ⟨⟩) Q) -∗ WP c (.op e k) Q)) :
    Does m K c (i :: l) l (Prog.lift e) (fun _ => True) := fun k hk => by
  rw [Prog.bind_lift]
  intro st s' hrun Q V
  unfold run at hrun
  cases hok : i.ok l with
  | false => rw [hok] at hrun; exact absurd hrun (by simp)
  | true =>
    rw [hok] at hrun
    cases ht : takeOut i.pre st with
    | none => rw [ht] at hrun; exact absurd hrun (by simp)
    | some st' =>
      rw [ht] at hrun
      have hs := hk ⟨⟩ trivial _ s' hrun Q
      iintro ⟨#Hf, Hst, HO, Hk⟩
      ihave H := (takeOut_sound (interp m c) _ _ _ ht) $$ Hst
      icases H with ⟨Hpre, Hst⟩
      rw [O_cons]
      iapply (h k Q V hok) $$ [Hpre HO]
      · isplitr; · iexact Hf
        isplitl [Hpre] <;> iassumption
      iintro ⟨Hpost, ⟨%V', HO⟩⟩
      iapply (hs V')
      isplitr; · iexact Hf
      isplitl [Hpost Hst]
      · rw [bigSepL_append]; isplitl [Hpost] <;> iassumption
      isplitl [HO] <;> iassumption

/-! ## The rules of the steps -/

/-- A signal to a neighbour. -/
theorem Does.signal {d : Fin 4} {l : List Instr} {c' : Dev nD} (hc : c' = nb d c) :
    Does m K c (.sig d :: l) l (semSignalWord c' barS 1#32 : Code F PUnit) (fun _ => True) := by
  subst hc
  refine Does.op (e := .semSignal ((nb d c : Dev nD), .tc) barS (1#32 : BitVec 32).toInt) fun k Q V _ => ?_
  show iprop(facts m K ∗ (dutyTok ER (barCell (nb d c)) 0 (opp d) ∗ barPay (F := F) (nb d c) (opp d)) ∗ owes (c : Thread nD τ) (O c l + paid c (.sig d)) V) ⊢ _
  iintro ⟨#Hf, ⟨Htok, Hpay⟩, HO⟩ Hk
  ihave Hb := (fact_at m K (nb d c, none)) $$ Hf
  icases Hb with ⟨#HI, #Hr⟩
  iapply (Rounds.wp_signal 𝒱₀ ER (Rd m) (c : Thread nD τ) none (dst := (nb d c : Thread nD τ)) (κ := K (nb d c, none))
      (d := opp d) (by rw [duties_bar]; exact Finset.mem_univ _) ((amount_bar m (nb d c) (opp d)).trans (by decide)) () (O c l) rfl)
    $$ [HO Htok Hpay]
  · isplitr; · iexact HI
    isplitl [HO]; · iexact HO
    isplitl [Htok]; · iexact Htok
    isplitl [Hpay]; · rw [payload_bar]; iexact Hpay
    iexact Hr
  iintro HO
  iapply Hk
  isplitr; · iempintro
  iexists V; iexact HO

/-- The wait at the barrier. -/
theorem Does.bar {l : List Instr} : Does m K c (.bar :: l) l (semWaitWord barS 4#32 : Code F PUnit) (fun _ => True) := by
  refine Does.op (e := .semWait barS (4#32 : BitVec 32).toInt) fun k Q V hok => ?_
  have hO : O c l + paid c .bar = O c l := add_zero _
  have hpost : bigSepL (Instr.post (zc c) .bar) (interp m c) = iprop(atPos ER (barCell c) 1 ∅ 0 ∗ bigSepL (sends (zc c)) fun t => landP (F := F) t c) := by
    show bigSepL (.barOut :: (sends (zc c)).map .land) (interp m c) = _
    rw [bigSepL_cons', bigSepL_map]; rfl
  rw [hO]
  show iprop(facts m K ∗ (atPos ER (barCell c) 0 ∅ 0 ∗ cred (tallyAt (barCell c) () 4)) ∗ owes (c : Thread nD τ) (O c l) V) ⊢ _
  iintro ⟨#Hf, ⟨Hat, Hc⟩, HO⟩ Hk
  ihave Hb := (fact_at m K (c, none)) $$ Hf
  icases Hb with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := O c l) (W := V) (R := 0) (m := 0) (T := ∅)
      (by rw [expect_bar]; decide)) $$ [Hc HO Hat]
  · isplitr; · iexact HI
    isplitl [Hc]; · iexact Hc
    isplitl [HO]; · iexact HO
    isplitr; · iapply (may_wait m K c l 0 hok (.reg barS) rfl); iexact Hf
    iexact Hat
  iintro ⟨HO, Hat, -, Hpay⟩
  ihave Hp := (Entails.of_eq (rest_bar m c)) $$ Hpay
  unfold barPay
  ihave Hp := (lands_eq c (sends (zc c))) $$ Hp
  iapply Hk
  isplitl [Hat Hp]
  · rw [hpost]
    isplitl [Hat]; · iexact Hat
    iexact Hp
  iexists _; iexact HO

/-! ### The local copy -/

theorem credit_seg (off : Fin 2 → ℕ) (inb) (h) :
    (oM.slice (Rect.unit (s := S16384x1024) off S256x1024.size inb) h).view.dmaCredit = N := by unfold N; rfl
theorem credit_xseg (off : Fin 2 → ℕ) (inb) (h) :
    (xM.slice (Rect.unit (s := S4096x1024) off S256x1024.size inb) h).view.dmaCredit = N := by unfold N; rfl
theorem credit_blk (off : Fin 2 → ℕ) (inb) (h) :
    (oM.slice (Rect.unit (s := S16384x1024) off S4096x1024.size inb) h).view.dmaCredit = Nc := by unfold Nc; rfl

/-- The copy of a device's operand into its own block of the result, begun. -/
theorem Does.copy {l : List Instr} {off : Fin 2 → ℕ} (hoff : off = ![zc c * 4096, 0]) {s : Fin 193} (hs : s = 0) {inb} {h}
    {hsrc} {hdst} {hsem} :
    Does m K c (.copy :: l) l
      (Prog.lift (.enqueueDma xM (.here (oM.slice (Rect.unit (s := S16384x1024) off S4096x1024.size inb) h)) (.dma s) hsrc hdst hsem) : Code F PUnit)
      (fun _ => True) := by
  subst hoff; subst hs
  refine Does.op fun k Q V _ => ?_
  have hO : O c l + paid c .copy = O c l := add_zero _
  have hpost : bigSepL (Instr.post (zc c) .copy) (interp m c) = iprop(atPos ER (cpCell c) 0 ∅ 0 ∗ cred (tallyAt (cpCell c) () Nc)) := rfl
  rw [hO]
  show iprop(facts m K ∗ (dutyTok ER (cpCell c) 0 0 ∗ atPos ER (cpCell c) 0 ∅ 0 ∗ (xL c ↦{fullShare.right.left} m (xL c))
      ∗ ∃ f : Buf (Elt F) (oL c), oL c ↦[rowsO (zc c * 4096) 4096]{fullShare} f) ∗ owes (c : Thread nD τ) (O c l) V) ⊢ _
  iintro ⟨#Hf, ⟨Htok, Hat, Hx, ⟨%f, Ho⟩⟩, HO⟩ Hk
  ihave Hb := (fact_at m K (c, some 0)) $$ Hf
  icases Hb with ⟨#HI, #Hr⟩
  rw [← set_blk (zc c * 4096) inb h]
  iapply (Rounds.wp_copy_pointsTo 𝒱₀ ER (Rd m) (c : Thread nD τ) none (src := xM)
      (dst := oM.slice (Rect.unit (s := S16384x1024) ![zc c * 4096, 0] S4096x1024.size inb) h) (sem := .dma 0)
      (κ := K (c, some 0)) (r := 0) (d := 0) (q := fullShare.right.left) (fs := m (xL c)) (fd := f)
      (by rw [duties_cp]; exact Finset.mem_singleton_self _) () Nc (credit_blk _ _ _) (amount_cp m c 0)
      (by
        rw [payload_cp]
        unfold cpPay
        iintro ⟨H, -⟩
        iapply (Entails.of_eq (by
          rw [set_blk]
          exact pointsTo_congr fun i hi => land_cp m c _ rfl inb h f i hi)) $$ H)) $$ [Htok Hx Ho]
  · isplitr; · iexact HI
    isplitl [Hx]; · rw [show (xM.view.set : Finset _) = Finset.univ from View.set_whole _]; iexact Hx
    isplitl [Ho]; · iexact Ho
    isplitl [Htok]; · iexact Htok
    iexact Hr
  iintro Hc
  iapply Hk
  isplitl [Hat Hc]
  · rw [hpost]
    isplitl [Hat] <;> iassumption
  iexists V; iexact HO

/-- The copy awaited. -/
theorem Does.copied {l : List Instr} {off : Fin 2 → ℕ} {s : Fin 193} (hs : s = 0) {inb} {h} {hsrc} {hdst} :
    Does m K c (.copied :: l) l
      (Prog.lift (.waitDma2 s xM (oM.slice (Rect.unit (s := S16384x1024) off S4096x1024.size inb) h) hsrc hdst) : Code F PUnit)
      (fun _ => True) := by
  subst hs
  refine Does.op fun k Q V hok => ?_
  have hO : O c l + paid c .copied = O c l := add_zero _
  have hpost : bigSepL (Instr.post (zc c) .copied) (interp m c) = iprop(atPos ER (cpCell c) 1 ∅ 0 ∗ cpPay m c) := rfl
  rw [hO]
  show iprop(facts m K ∗ (atPos ER (cpCell c) 0 ∅ 0 ∗ cred (tallyAt (cpCell c) () Nc)) ∗ owes (c : Thread nD τ) (O c l) V) ⊢ _
  iintro ⟨#Hf, ⟨Hat, Hc⟩, HO⟩ Hk
  ihave Hb := (fact_at m K (c, some 0)) $$ Hf
  icases Hb with ⟨#HI, #Hr⟩
  iapply (Rounds.wp_wait_rest_token 𝒱₀ ER (Rd m) (c : Thread nD τ) none (κ := K (c, some 0)) (sm := .dma 0) (k' := Nc)
      (fun K => by rw [← credit_blk off inb h]; exact wpE_waitDma2_eq 𝒱₀ (c : Thread nD τ) none Set.univ K)
      (Set.mem_univ _) () (O := O c l) (W := V) (R := 0) (m := 0) (T := ∅)
      (by rw [Nat.zero_add]; exact (expect_cp m c).symm)) $$ [Hc HO Hat]
  · isplitr; · iexact HI
    isplitl [Hc]; · iexact Hc
    isplitl [HO]; · iexact HO
    isplitr; · iapply (may_wait m K c l 100 hok (.dma 0) rfl); iexact Hf
    iexact Hat
  iintro ⟨HO, Hat, -, Hpay⟩
  ihave Hp := (Entails.of_eq (rest_cp m c)) $$ Hpay
  iapply Hk
  isplitl [Hat Hp]
  · rw [hpost]
    isplitl [Hat] <;> iassumption
  iexists _; iexact HO

/-! ### A transfer -/

/-- A transfer begun: `src` is what it reads, of contents `fs`, and what it writes is `W`. -/
theorem Does.send {t : T} {l : List Instr} {c' : Dev nD} (hc : c' = t.dst c) {off : Fin 2 → ℕ} (hoff : off = ![t.row c, 0]) {inb} {h}
    {src : Memref sig .tc .hbm S256x1024 .f32} {fs : Buf (Elt F) (src.view.loc (c : Thread nD τ))}
    (hsrcP : srcP m c t ⊢ (src.view.loc (c : Thread nD τ) ↦[src.view.set]{t.share} fs))
    (hland : t.valid = true → ∀ (fd : Buf (Elt F) (oL (t.dst c))) (i) (hi : i ∈ rowsO (t.row c) 256),
      (oM.slice (Rect.unit (s := S16384x1024) off S256x1024.size inb) h).view.write (Elt F) fd (src.view.read (Elt F) fs) Finset.univ i
        = W m (t.dst c) i)
    {sS sR : Fin 193} (hs : sS = sndS t) (hr : sR = rcvS t) {hsc} {hsrc} {hdst} {hsem} :
    Does m K c (.send t :: l) l
      (Prog.lift (.enqueueDma src (.remote (Dev.tc c') (oM.slice (Rect.unit (s := S16384x1024) off S256x1024.size inb) h) (.dma sS) hsc)
        (.dma sR) hsrc hdst hsem) : Code F PUnit)
      (fun _ => True) := by
  subst hoff; subst hs; subst hr; subst hc
  refine Does.op fun k Q V _ => ?_
  have hpost : bigSepL (Instr.post (zc c) (.send t)) (interp m c) = cred (tallyAt (sndCell c t) () N) := rfl
  show iprop(facts m K ∗ (srcP m c t ∗ landP (F := F) t c ∗ ⌜t.sent (zc c) = true⌝ ∗ dutyTok ER (sndCell c t) 0 0 ∗ dutyTok ER (rcvCell (t.dst c) t) 0 0)
    ∗ owes (c : Thread nD τ) (O c l + paid c (.send t)) V) ⊢ _
  unfold landP
  iintro ⟨#Hf, ⟨Hsrc, ⟨%f, Hd⟩, %hsent, Ht1, Ht2⟩, HO⟩ Hk
  have hv := valid_of_sent t _ hsent
  have hrcvd : t.rcvd (zc (t.dst c)) = true := by rw [← sent_eq]; exact hsent
  ihave Hb := (fact_at m K (c, some (sndS t))) $$ Hf
  icases Hb with ⟨#HI, #Hr⟩
  ihave Hb := (fact_at m K (t.dst c, some (rcvS t))) $$ Hf
  icases Hb with ⟨#HI', #Hr'⟩
  ihave Hsrc := hsrcP $$ Hsrc
  rw [← set_seg (t.row c) inb h]
  iapply (Rounds.wp_send_pointsTo 𝒱₀ ER (Rd m) (c : Thread nD τ) none (κ₁ := K (c, some (sndS t))) (κ₂ := K (t.dst c, some (rcvS t)))
      (c' := (t.dst c : Thread nD τ)) (src := src) (dst := oM.slice (Rect.unit (s := S16384x1024) ![t.row c, 0] S256x1024.size inb) h)
      (sS := .dma (sndS t)) (sem := .dma (rcvS t)) (q := t.share) (fs := fs) (r₁ := 0) (r₂ := 0) (d₁ := 0) (d₂ := 0) (fd := f)
      (by rw [duties_snd m c t hsent]; exact Finset.mem_singleton_self _)
      (by rw [duties_rcv m (t.dst c) t hrcvd]; exact Finset.mem_singleton_self _)
      () () N (credit_seg _ _ _) (amount_snd m c t hv 0) (amount_rcv m (t.dst c) t hv 0) (O c l) rfl (W := V)
      (by rw [payload_snd m c t hv]; iintro -; iempintro)
      (by
        rw [payload_rcv m (t.dst c) t hv]
        unfold rcvPay
        rw [T.src_dst, set_seg]
        exact Entails.of_eq (pointsTo_congr fun i hi => hland hv f i hi))) $$ [HO Hsrc Hd Ht1 Ht2]
  · isplitr; · iexact HI
    isplitr; · iexact HI'
    isplitl [Hsrc]; · iexact Hsrc
    isplitl [Hd]; · iexact Hd
    isplitl [HO]; · iexact HO
    isplitl [Ht1]; · iexact Ht1
    isplitr; · iexact Hr
    isplitl [Ht2]; · iexact Ht2
    iexact Hr'
  iintro ⟨Hc, HO⟩
  iapply Hk
  isplitl [Hc]; · rw [hpost]; iexact Hc
  iexists V; iexact HO

/-- A transfer of rows of the result. -/
theorem Does.send_out {t : T} (ho : t.own = false) {l : List Instr} {c' : Dev nD} (hc : c' = t.dst c)
    {off : Fin 2 → ℕ} (hoff : off = ![t.row c, 0]) {inb} {h} {inb'} {h'} {sS sR : Fin 193} (hs : sS = sndS t) (hr : sR = rcvS t)
    {hsc} {hsrc} {hdst} {hsem} :
    Does m K c (.send t :: l) l
      (Prog.lift (.enqueueDma (oM.slice (Rect.unit (s := S16384x1024) off S256x1024.size inb') h')
        (.remote (Dev.tc c') (oM.slice (Rect.unit (s := S16384x1024) off S256x1024.size inb) h) (.dma sS) hsc)
        (.dma sR) hsrc hdst hsem) : Code F PUnit)
      (fun _ => True) := by
  refine Does.send hc hoff (fs := W m c) ?_ ?_ hs hr
  · subst hoff
    unfold srcP
    rw [if_neg (by rw [ho]; decide), set_seg]
  · subst hoff
    intro _ fd i hi
    exact land_out m (t.row c) inb h t c fd i hi

/-- A transfer of rows of the operand. -/
theorem Does.send_x {t : T} (ho : t.own = true) {l : List Instr} {c' : Dev nD} (hc : c' = t.dst c)
    {off : Fin 2 → ℕ} (hoff : off = ![t.row c, 0]) {xoff : Fin 2 → ℕ} (hxoff : xoff = ![t.xrow c, 0]) {inb} {h} {inb'} {h'}
    {sS sR : Fin 193} (hs : sS = sndS t) (hr : sR = rcvS t) {hsc} {hsrc} {hdst} {hsem} :
    Does m K c (.send t :: l) l
      (Prog.lift (.enqueueDma (xM.slice (Rect.unit (s := S4096x1024) xoff S256x1024.size inb') h')
        (.remote (Dev.tc c') (oM.slice (Rect.unit (s := S16384x1024) off S256x1024.size inb) h) (.dma sS) hsc)
        (.dma sR) hsrc hdst hsem) : Code F PUnit)
      (fun _ => True) := by
  refine Does.send hc hoff (fs := m (xL c)) ?_ ?_ hs hr
  · subst hxoff
    unfold srcP
    rw [if_pos ho, set_xseg]
  · subst hoff; subst hxoff
    intro hv fd i hi
    exact land_x m t c ho hv inb h inb' h' fd i hi

/-- A departure awaited. -/
theorem Does.done {t : T} {l : List Instr} {s : Fin 193} (hs : s = sndS t) {src : Memref sig .tc .hbm S256x1024 .f32}
    {dst : Memref sig .tc .hbm S256x1024 .f32} (hN : dst.view.dmaCredit = N) {hsrc} {hdst} :
    Does m K c (.done t :: l) l
      (Prog.lift (.waitDma2 s src dst hsrc hdst) : Code F PUnit)
      (fun _ => True) := by
  subst hs
  refine Does.op fun k Q V hok => ?_
  have hO : O c l + paid c (.done t) = O c l := add_zero _
  have hpost : bigSepL (Instr.post (zc c) (.done t)) (interp m c) = atPos ER (sndCell c t) 1 ∅ 0 := rfl
  rw [hO]
  show iprop(facts m K ∗ ((⌜t.sent (zc c) = true⌝ ∗ atPos ER (sndCell c t) 0 ∅ 0) ∗ cred (tallyAt (sndCell c t) () N))
    ∗ owes (c : Thread nD τ) (O c l) V) ⊢ _
  iintro ⟨#Hf, ⟨⟨%hsent, Hat⟩, Hc⟩, HO⟩ Hk
  ihave Hb := (fact_at m K (c, some (sndS t))) $$ Hf
  icases Hb with ⟨#HI, #Hr⟩
  iapply (Rounds.wp_wait_rest_token 𝒱₀ ER (Rd m) (c : Thread nD τ) none (κ := K (c, some (sndS t))) (sm := .dma (sndS t)) (k' := N)
      (fun K => by rw [← hN]; exact wpE_waitDma2_eq 𝒱₀ (c : Thread nD τ) none Set.univ K)
      (Set.mem_univ _) () (O := O c l) (W := V) (R := 0) (m := 0) (T := ∅)
      (by rw [Nat.zero_add]; exact (expect_snd m c t hsent).symm)) $$ [Hc HO Hat]
  · isplitr; · iexact HI
    isplitl [Hc]; · iexact Hc
    isplitl [HO]; · iexact HO
    isplitr; · iapply (may_wait m K c l 100 hok (.dma (sndS t)) (lv_snd c t (valid_of_sent t _ hsent))); iexact Hf
    iexact Hat
  iintro ⟨HO, Hat, -, -⟩
  iapply Hk
  isplitl [Hat]; · rw [hpost]; iexact Hat
  iexists _; iexact HO

/-- What is sent on from a segment is that segment. -/
theorem kids_all : (allT.all fun t => (List.finRange 32).all fun c => !t.rcvd (zc c) ||
    (t.kids (zc c)).all fun k => !k.own && Nat.beq (k.row c) (t.row (t.src c))) = true := by decide +kernel
theorem kids_ok (t : T) (c : Dv) (h : t.rcvd (zc c) = true) (k : T) (hk : k ∈ t.kids (zc c)) : k.own = false ∧ k.row c = t.row (t.src c) := by
  have h1 := List.all_eq_true.mp (List.all_eq_true.mp kids_all t (mem_allT t)) c (List.mem_finRange c)
  rw [h, Bool.not_true, Bool.false_or] at h1
  have h2 := List.all_eq_true.mp h1 k hk
  rw [Bool.and_eq_true, Bool.not_eq_true'] at h2
  exact ⟨h2.1, Nat.eq_of_beq_eq_true h2.2⟩

/-- Rows received, shared out: a share kept, one for each transfer that sends them on. -/
theorem share_out (t : T) (hrc : t.rcvd (zc c) = true) :
    rcvPay m c t ⊢ iprop(keepP m c t ∗ bigSepL ((t.kids (zc c)).map .src) (interp m c)) := by
  have h1 : ∀ q : PosShare TreeShare, (oL c ↦[rowsO (t.row (t.src c)) 256]{q} W m c : sProp 𝕄)
      ⊢ iprop((oL c ↦[rowsO (t.row (t.src c)) 256]{q.left} W m c) ∗ oL c ↦[rowsO (t.row (t.src c)) 256]{q.right} W m c) :=
    fun q => (pointsTo_share (PosShare.mem_left_op_right q)).1
  have hsplit : (oL c ↦[rowsO (t.row (t.src c)) 256]{fullShare.right} W m c)
      ⊢ bigSepL (t.kids (zc c)) fun k => (oL c ↦[rowsO (t.row (t.src c)) 256]{k.share} W m c : sProp 𝕄) := by
    rcases t with ⟨q, k, g⟩
    cases q <;> dsimp only [T.kids]
    · cases hb : (decide (k.val < 2) && decide (zc c ≤ 2))
      · rw [cond_false, List.append_nil, bigSepL_cons', bigSepL_cons']
        iintro H
        ihave H := (h1 _) $$ H
        icases H with ⟨Ha, H⟩
        isplitl [Ha]; · iexact Ha
        ihave H := (h1 _) $$ H
        icases H with ⟨Ha, H⟩
        isplitl [Ha]; · iexact Ha
        iempintro
      · have hk : (zR (k + 1) g).share = fullShare.right.right.right := by
          simp only [Bool.and_eq_true, decide_eq_true_eq] at hb
          exact if_neg (by have := hb.1; rw [Fin.val_add]; simp; omega)
        rw [cond_true]
        simp only [List.cons_append, List.nil_append]
        rw [bigSepL_cons', bigSepL_cons', bigSepL_cons', hk]
        iintro H
        ihave H := (h1 _) $$ H
        icases H with ⟨Ha, H⟩
        isplitl [Ha]; · iexact Ha
        ihave H := (h1 _) $$ H
        icases H with ⟨Ha, H⟩
        isplitl [Ha]; · iexact Ha
        isplitl [H]; · iexact H
        iempintro
    · cases hb : (decide (k.val < 2) && decide (1 ≤ zc c))
      · rw [cond_false, List.append_nil, bigSepL_cons', bigSepL_cons']
        iintro H
        ihave H := (h1 _) $$ H
        icases H with ⟨Ha, H⟩
        isplitl [Ha]; · iexact Ha
        ihave H := (h1 _) $$ H
        icases H with ⟨Ha, H⟩
        isplitl [Ha]; · iexact Ha
        iempintro
      · rw [cond_true]
        simp only [List.cons_append, List.nil_append]
        rw [bigSepL_cons', bigSepL_cons', bigSepL_cons']
        iintro H
        ihave H := (h1 _) $$ H
        icases H with ⟨Ha, H⟩
        isplitl [Ha]; · iexact Ha
        ihave H := (h1 _) $$ H
        icases H with ⟨Ha, H⟩
        isplitl [Ha]; · iexact Ha
        isplitl [H]; · iexact H
        iempintro
    · cases decide (g.val < 2)
      · iintro -; rw [cond_false, bigSepL_nil]; iempintro
      · rw [cond_true, bigSepL_cons']
        iintro H
        ihave H := (h1 _) $$ H
        icases H with ⟨Ha, H⟩
        isplitl [Ha]; · iexact Ha
        iempintro
    · cases decide (2 ≤ g.val)
      · iintro -; rw [cond_false, bigSepL_nil]; iempintro
      · rw [cond_true, bigSepL_cons']
        iintro H
        ihave H := (h1 _) $$ H
        icases H with ⟨Ha, H⟩
        isplitl [Ha]; · iexact Ha
        iempintro
    · iintro -; rw [bigSepL_nil]; iempintro
    · iintro -; rw [bigSepL_nil]; iempintro
  have hkids : (bigSepL (t.kids (zc c)) fun k => (oL c ↦[rowsO (t.row (t.src c)) 256]{k.share} W m c : sProp 𝕄))
      ⊢ bigSepL ((t.kids (zc c)).map .src) (interp m c) := by
    rw [bigSepL_map]
    refine bigSepL_mono fun k hk => ?_
    obtain ⟨ho, hr⟩ := kids_ok t c hrc k hk
    show _ ⊢ srcP m c k
    unfold srcP
    rw [if_neg (by rw [ho]; decide), hr]
  unfold rcvPay keepP
  iintro H
  ihave H := (h1 _) $$ H
  icases H with ⟨Ha, H⟩
  isplitl [Ha]; · iexact Ha
  iapply hkids; iapply hsplit; iexact H

/-- An arrival awaited. -/
theorem Does.recv {t : T} {l : List Instr} {s : Fin 193} (hs : s = rcvS t) {src : Memref sig .tc .hbm S256x1024 .f32}
    {dst : Memref sig .tc .hbm S256x1024 .f32} (hN : dst.view.dmaCredit = N) {hsrc} {hdst} :
    Does m K c (.recv t :: l) l
      (Prog.lift (.waitDma2 s src dst hsrc hdst) : Code F PUnit)
      (fun _ => True) := by
  subst hs
  refine Does.op fun k Q V hok => ?_
  have hO : O c l + paid c (.recv t) = O c l := add_zero _
  have hpost : bigSepL (Instr.post (zc c) (.recv t)) (interp m c)
      = iprop(atPos ER (rcvCell c t) 1 ∅ 0 ∗ keepP m c t ∗ bigSepL ((t.kids (zc c)).map .src) (interp m c)) := by
    show bigSepL (.rdone t :: .keep t :: (t.kids (zc c)).map .src) (interp m c) = _
    rw [bigSepL_cons', bigSepL_cons']; rfl
  rw [hO]
  show iprop(facts m K ∗ (⌜t.rcvd (zc c) = true⌝ ∗ atPos ER (rcvCell c t) 0 ∅ 0 ∗ cred (tallyAt (rcvCell c t) () N))
    ∗ owes (c : Thread nD τ) (O c l) V) ⊢ _
  iintro ⟨#Hf, ⟨%hrc, Hat, Hc⟩, HO⟩ Hk
  ihave Hb := (fact_at m K (c, some (rcvS t))) $$ Hf
  icases Hb with ⟨#HI, #Hr⟩
  iapply (Rounds.wp_wait_rest_token 𝒱₀ ER (Rd m) (c : Thread nD τ) none (κ := K (c, some (rcvS t))) (sm := .dma (rcvS t)) (k' := N)
      (fun K => by rw [← hN]; exact wpE_waitDma2_eq 𝒱₀ (c : Thread nD τ) none Set.univ K)
      (Set.mem_univ _) () (O := O c l) (W := V) (R := 0) (m := 0) (T := ∅)
      (by rw [Nat.zero_add]; exact (expect_rcv m c t hrc).symm)) $$ [Hc HO Hat]
  · isplitr; · iexact HI
    isplitl [Hc]; · iexact Hc
    isplitl [HO]; · iexact HO
    isplitr; · iapply (may_wait m K c l t.lev hok (.dma (rcvS t)) (lv_rcv c t (valid_of_rcvd t _ hrc))); iexact Hf
    iexact Hat
  iintro ⟨HO, Hat, -, Hpay⟩
  ihave Hp := (Entails.of_eq (rest_rcv m c t hrc)) $$ Hpay
  ihave Hp := (share_out t hrc) $$ Hp
  icases Hp with ⟨Hkeep, Hkids⟩
  iapply Hk
  isplitl [Hat Hkeep Hkids]
  · rw [hpost]
    isplitl [Hat]; · iexact Hat
    isplitl [Hkeep] <;> iassumption
  iexists _; iexact HO

/-! ## Walking a program

The rules by which a printed program is walked. Its conditions, offsets and addressees are functions of the device;
what is to be known of them is asked of all thirty-two devices at once. -/

theorem Does.step {i : Instr} {l r : List Instr} {α : Type} {p : Code F PUnit} {q : PUnit → Code F α} {Φ : α → Prop}
    (hp : Does m K c (i :: l) l p (fun _ => True)) (hq : Does m K c l r (q ⟨⟩) Φ) : Does m K c (i :: l) r (p >>= q) Φ :=
  Does.bind hp fun _ _ => hq

theorem Does.assoc {l r : List Instr} {α β γ : Type} {a : Code F α} {b : α → Code F β} {q : β → Code F γ} {Φ : γ → Prop}
    (h : Does m K c l r (a >>= fun x => b x >>= q) Φ) : Does m K c l r ((a >>= b) >>= q) Φ := by rw [bind_assoc]; exact h

theorem Does.pure_bind {l r : List Instr} {α β : Type} {a : α} {q : α → Code F β} {Φ : β → Prop}
    (h : Does m K c l r (q a) Φ) : Does m K c l r (Pure.pure a >>= q) Φ := by rw [LawfulMonad.pure_bind]; exact h

theorem Does.of_eq {l l' r : List Instr} {α : Type} {p : Code F α} {Φ : α → Prop} (h : l = l') (hp : Does m K c l' r p Φ) :
    Does m K c l r p Φ := h ▸ hp

/-- A conditional block of a program, with what follows it, `X`, once. -/
theorem Does.block {C : Prop} {dec : Decidable C} {b : Bool} (hb : C ↔ b = true) {l₁ l₂ l' r : List Instr}
    (hl : l₁ ++ l' = l₂) {α : Type} {X : Code F α} {A : C → Code F α} {Φ : α → Prop}
    (hX : Does m K c l' r X Φ) (hA : ∀ h : C, Does m K c l' r X Φ → Does m K c l₂ r (A h) Φ) :
    Does m K c (wh b l₁ ++ l') r (if h : C then A h else X) Φ := by
  by_cases h : C
  · rw [dif_pos h, hb.mp h]; exact hl ▸ hA h hX
  · rw [dif_neg h, show b = false from by rw [hb] at h; simpa using h]; exact hX

end Cert.Gather

end
-- ==== Proof.Text.lean ====
/-
`Text`: the windows of the printed program up to the end of the steps along `z`.

The printed body is cut into windows. Each is shown to carry out some consecutive blocks of `blocks`; the facts asked of
the printed offsets, device numbers and conditions are finite, one for each of the thirty-two devices, and are decided.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.Sem

variable {F : FTy → Type} [FloatOps F] {m : (ℓ : Loc nD τ sig) → Buf (Elt F) ℓ} {K : Dev nD × Option (Fin 193) → ℕ} {c : Dev nD}

/-- A list of blocks, then `r`. -/
def flat (bs : List (List Instr)) (r : List Instr) : List Instr := bs.flatten ++ r

/-- The printed depth of a device. -/
def z8 (c : Dev nD) : BitVec 32 := Scalar.remsi (Scalar.divsi (Dev.word c) 1#32) 4#32

attribute [local irreducible] wh Does

set_option maxRecDepth 65536 in
/-- The first window finds the device's number and its depth. -/
theorem does25 (r : List Instr) :
    Does m K c r r
      (k0_part25 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12) (fun a => a.1 = c ∧ a.2.2.2.1 = z8 c) := by
  rw [k0_part25_eq_skeleton]
  delta k0_part25_skel
  refine Does.bind Does.deviceId fun d hd => ?_
  subst hd
  exact Does.pure ⟨rfl, rfl⟩

set_option maxRecDepth 65536 in
/-- The second window is arithmetic. -/
theorem does26 (r : List Instr) (v2 v8 v9 v32 : BitVec 32) :
    Does m K c r r
      (k0_part26 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 v2 v8 v9 v32) (fun _ => True) := by
  rw [k0_part26_eq_skeleton]
  delta k0_part26_skel
  exact Does.pure trivial

set_option maxRecDepth 65536 in
/-- The signals, the barrier and the start of the local copy. -/
theorem does27 (r : List Instr) (v2 v5 v8 v9 v22 v57 v69 c0 : BitVec 32) (v70 : BitVec 1) :
    Does m K c (flat [[.sig 0, .sig 1, .sig 2, .sig 3, .bar, .copy]] r) r
      (k0_part27 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v57 v69 v70 c0) (fun _ => True) := by
  rw [k0_part27_eq_skeleton]
  delta k0_part27_skel
  refine Does.step (Does.signal (Fin.ext (by clear * -; revert c; decide +kernel))) ?_
  refine Does.step (Does.signal (Fin.ext (by clear * -; revert c; decide +kernel))) ?_
  refine Does.step (Does.signal (Fin.ext (by clear * -; revert c; decide +kernel))) ?_
  refine Does.step (Does.signal (Fin.ext (by clear * -; revert c; decide +kernel))) ?_
  refine Does.step Does.bar ?_
  refine Does.step (Does.copy (by clear * -; revert c; decide +kernel) rfl) ?_
  exact Does.pure trivial

set_option maxHeartbeats 1000000 in
set_option maxRecDepth 65536 in
/-- The first loop, and the first segments of the next. -/
theorem does28 (r : List Instr) (v2 v5 v8 v9 v22 v35 v57 v69 v99 c0 : BitVec 32) (v70 v71 : BitVec 1) :
    Does m K c (flat (first (zc c) 0 ++ first (zc c) 1 ++ first (zc c) 2 ++ first (zc c) 3 ++ along (zc c) 0 3 0 ++ (along (zc c) 0 3 1).take 1) r) r
      (k0_part28 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v35 v57 v69 v70 v71 v99 c0) (fun _ => True) := by
  refine Does.of_eq (by
    simp only [flat, first, along, List.take_succ_cons, List.take_zero, List.drop_succ_cons, List.drop_zero, List.cons_append, List.nil_append,
      List.append_assoc, List.flatten_cons, List.flatten_nil]
    rfl) ?_
  rw [k0_part28_eq_skeleton]
  delta k0_part28_skel
  rw [k0_part1_eq_skeleton, k0_part2_eq_skeleton, k0_part3_eq_skeleton]
  delta k0_part1_skel k0_part2_skel k0_part3_skel
  repeat' first
    | with_reducible assumption
    | with_reducible exact Does.pure trivial
    | with_reducible refine Does.assoc ?_
    | with_reducible refine Does.pure_bind ?_
    | (replace h := h; with_reducible refine Does.block (by clear * -; revert c; decide +kernel) (by simp only [List.cons_append, List.nil_append, List.append_assoc]; rfl) ?_ fun _ hX => ?_)
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_x (t := zR 0 _) rfl (Fin.ext (by clear * -; revert c; decide +kernel))
             (by clear * - h; revert c; decide +kernel) (by clear * - h; revert c; decide +kernel) rfl rfl
         | exact Does.send_x (t := zL 0 _) rfl (Fin.ext (by clear * -; revert c; decide +kernel))
             (by clear * - h; revert c; decide +kernel) (by clear * - h; revert c; decide +kernel) rfl rfl
         | exact Does.send_out rfl (Fin.ext (by clear * -; revert c; decide +kernel)) (by clear * - h; revert c; decide +kernel) rfl rfl)

set_option maxHeartbeats 1000000 in
set_option maxRecDepth 65536 in
/-- The first step along `z` to its end, and most of the second. -/
theorem does29 (r : List Instr) (v2 v5 v8 v9 v22 v35 v57 v69 v120 v122 v129 c0 : BitVec 32) (v70 v71 v115 v118 : BitVec 1) :
    Does m K c (flat ((along (zc c) 0 3 1).drop 1 ++ along (zc c) 0 3 2 ++ along (zc c) 0 3 3 ++ along (zc c) 1 4 0 ++ along (zc c) 1 4 1 ++ along (zc c) 1 4 2) r) r
      (k0_part29 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v35 v57 v69 v70 v71 v115 v118 v120 v122 v129 c0) (fun _ => True) := by
  refine Does.of_eq (by
    simp only [flat, along, List.take_succ_cons, List.take_zero, List.drop_succ_cons, List.drop_zero, List.cons_append, List.nil_append,
      List.append_assoc, List.flatten_cons, List.flatten_nil]
    rfl) ?_
  rw [k0_part29_eq_skeleton]
  delta k0_part29_skel
  rw [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  delta k0_part4_skel k0_part5_skel k0_part6_skel k0_part7_skel k0_part8_skel k0_part9_skel k0_part10_skel k0_part11_skel k0_part12_skel k0_part13_skel k0_part14_skel
  repeat' first
    | with_reducible assumption
    | with_reducible exact Does.pure trivial
    | with_reducible refine Does.assoc ?_
    | with_reducible refine Does.pure_bind ?_
    | (replace h := h; with_reducible refine Does.block (by clear * -; revert c; decide +kernel) (by simp only [List.cons_append, List.nil_append, List.append_assoc]; rfl) ?_ fun _ hX => ?_)
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_out rfl (Fin.ext (by clear * -; revert c; decide +kernel)) (by clear * - h; revert c; decide +kernel) rfl rfl)

set_option maxHeartbeats 1000000 in
set_option maxRecDepth 65536 in
/-- The rest of the second step along `z`, and the last. -/
theorem does30 (r : List Instr) (v2 v5 v8 v9 v22 v35 v57 v69 v144 v146 v159 c0 : BitVec 32) (v70 v71 v142 : BitVec 1) :
    Does m K c (flat (along (zc c) 1 4 3 ++ alongLast (zc c) 0 ++ alongLast (zc c) 1 ++ alongLast (zc c) 2 ++ alongLast (zc c) 3) r) r
      (k0_part30 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v35 v57 v69 v70 v71 v142 v144 v146 v159 c0) (fun _ => True) := by
  refine Does.of_eq (by
    simp only [flat, along, alongLast, List.take_succ_cons, List.take_zero, List.drop_succ_cons, List.drop_zero, List.cons_append, List.nil_append,
      List.append_assoc, List.flatten_cons, List.flatten_nil]
    rfl) ?_
  rw [k0_part30_eq_skeleton]
  delta k0_part30_skel
  rw [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  delta k0_part15_skel k0_part16_skel k0_part17_skel k0_part18_skel k0_part19_skel k0_part20_skel k0_part21_skel k0_part22_skel k0_part23_skel k0_part24_skel
  repeat' first
    | with_reducible assumption
    | with_reducible exact Does.pure trivial
    | with_reducible refine Does.assoc ?_
    | with_reducible refine Does.pure_bind ?_
    | (replace h := h; with_reducible refine Does.block (by clear * -; revert c; decide +kernel) (by simp only [List.cons_append, List.nil_append, List.append_assoc]; rfl) ?_ fun _ hX => ?_)
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_out rfl (Fin.ext (by clear * -; revert c; decide +kernel)) (by clear * - h; revert c; decide +kernel) rfl rfl)

end Cert.Gather

end
-- ==== Proof.TextB.lean ====
/-
`TextB`: the windows of the lateral and the diagonal loops.
-/
module

public import proofs.«01_k».proof.Proof.Text

@[expose] public section

noncomputable section

namespace Cert.Gather

open Cert.KernelIdeal Cert.KernelIdeal.Gen

open Idealize.ShloMosaic
open Idealize.ShloMosaic.TcCoe
open Idealize.SL Idealize.SL.Sem

variable {F : FTy → Type} [FloatOps F] {m : (ℓ : Loc nD τ sig) → Buf (Elt F) ℓ} {K : Dev nD × Option (Fin 193) → ℕ} {c : Dev nD}

attribute [local irreducible] wh Does

set_option maxHeartbeats 1000000 in
set_option maxRecDepth 65536 in
/-- The lateral loop, first part. -/
theorem does31 (r : List Instr) (v2 v5 v8 v9 v22 v39 v42 v189 : BitVec 32) (v187 : BitVec 1) :
    Does m K c (flat (acrossLow (zc c) 0 3 0 ++ acrossLow (zc c) 0 3 1 ++ acrossHigh (zc c) 0 3 2 0) r) r
      (k0_part31 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v39 v42 v187 v189) (fun _ => True) := by
  refine Does.of_eq (by
    simp only [flat, acrossLow, acrossHigh, List.take_succ_cons, List.take_zero, List.drop_succ_cons, List.drop_zero, List.cons_append, List.nil_append,
      List.append_assoc, List.flatten_cons, List.flatten_nil]
    rfl) ?_
  rw [k0_part31_eq_skeleton]
  delta k0_part31_skel
  repeat' first
    | with_reducible assumption
    | with_reducible exact Does.pure trivial
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_out rfl (Fin.ext (by clear * -; revert c; decide +kernel)) (by clear * - h; revert c; decide +kernel) rfl rfl)

set_option maxHeartbeats 1000000 in
set_option maxRecDepth 65536 in
/-- The lateral loop, second part. -/
theorem does32 (r : List Instr) (v2 v5 v8 v9 v22 v39 v42 v192 v194 v219 c0 : BitVec 32) (v187 v190 : BitVec 1) :
    Does m K c (flat (acrossHigh (zc c) 0 3 3 1 ++ acrossLow (zc c) 1 4 0 ++ (acrossLow (zc c) 1 4 1).take 3) r) r
      (k0_part32 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v39 v42 v187 v190 v192 v194 v219 c0) (fun _ => True) := by
  refine Does.of_eq (by
    simp only [flat, acrossLow, acrossHigh, List.take_succ_cons, List.take_zero, List.drop_succ_cons, List.drop_zero, List.cons_append, List.nil_append,
      List.append_assoc, List.flatten_cons, List.flatten_nil]
    rfl) ?_
  rw [k0_part32_eq_skeleton]
  delta k0_part32_skel
  repeat' first
    | with_reducible assumption
    | with_reducible exact Does.pure trivial
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_out rfl (Fin.ext (by clear * -; revert c; decide +kernel)) (by clear * - h; revert c; decide +kernel) rfl rfl)

set_option maxHeartbeats 1000000 in
set_option maxRecDepth 65536 in
/-- The lateral loop, third part. -/
theorem does33 (r : List Instr) (v2 v5 v8 v9 v22 v39 v42 v232 v234 v249 c0 : BitVec 32) (v227 v230 : BitVec 1) :
    Does m K c (flat ((acrossLow (zc c) 1 4 1).drop 3 ++ acrossHigh (zc c) 1 4 2 0 ++ acrossHigh (zc c) 1 4 3 1 ++ (acrossLow (zc c) 2 5 0).take 2) r) r
      (k0_part33 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v39 v42 v227 v230 v232 v234 v249 c0) (fun _ => True) := by
  refine Does.of_eq (by
    simp only [flat, acrossLow, acrossHigh, List.take_succ_cons, List.take_zero, List.drop_succ_cons, List.drop_zero, List.cons_append, List.nil_append,
      List.append_assoc, List.flatten_cons, List.flatten_nil]
    rfl) ?_
  rw [k0_part33_eq_skeleton]
  delta k0_part33_skel
  repeat' first
    | with_reducible assumption
    | with_reducible exact Does.pure trivial
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_out rfl (Fin.ext (by clear * -; revert c; decide +kernel)) (by clear * - h; revert c; decide +kernel) rfl rfl)

set_option maxHeartbeats 1000000 in
set_option maxRecDepth 65536 in
/-- The lateral loop, last part. -/
theorem does34 (r : List Instr) (v2 v5 v8 v9 v22 v39 v42 v272 v274 v279 c0 : BitVec 32) (v267 v270 : BitVec 1) :
    Does m K c (flat ((acrossLow (zc c) 2 5 0).drop 2 ++ acrossLow (zc c) 2 5 1 ++ acrossHigh (zc c) 2 5 2 0 ++ acrossHigh (zc c) 2 5 3 1) r) r
      (k0_part34 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v39 v42 v267 v270 v272 v274 v279 c0) (fun _ => True) := by
  refine Does.of_eq (by
    simp only [flat, acrossLow, acrossHigh, List.take_succ_cons, List.take_zero, List.drop_succ_cons, List.drop_zero, List.cons_append, List.nil_append,
      List.append_assoc, List.flatten_cons, List.flatten_nil]
    rfl) ?_
  rw [k0_part34_eq_skeleton]
  delta k0_part34_skel
  repeat' first
    | with_reducible assumption
    | with_reducible exact Does.pure trivial
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.send_out rfl (Fin.ext (by clear * -; revert c; decide +kernel)) (by clear * - h; revert c; decide +kernel) rfl rfl)

set_option maxHeartbeats 1000000 in
set_option maxRecDepth 65536 in
/-- The diagonal quarter, all but its last segment. -/
theorem does35 (r : List Instr) (v2 v5 v8 v9 v22 v46 v309 : BitVec 32) (v307 : BitVec 1) :
    Does m K c (flat (diag (zc c) 0 3 0 ++ diag (zc c) 0 3 1 ++ diag (zc c) 1 4 0 ++ diag (zc c) 1 4 1 ++ diag (zc c) 2 5 0) r) r
      (k0_part35 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 v8 v9 v22 v46 v307 v309) (fun _ => True) := by
  refine Does.of_eq (by
    simp only [flat, diag, List.take_succ_cons, List.take_zero, List.drop_succ_cons, List.drop_zero, List.cons_append, List.nil_append,
      List.append_assoc, List.flatten_cons, List.flatten_nil]
    rfl) ?_
  rw [k0_part35_eq_skeleton]
  delta k0_part35_skel
  repeat' first
    | with_reducible assumption
    | with_reducible exact Does.pure trivial
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _))

end Cert.Gather

end
-- ==== Proof.TextC.lean ====
/-
`TextC`: the windows of the last loop.

Here some conditions are bits computed in an earlier window, so each window also says what bits it returns.
-/
module

public import proofs.«01_k».proof.Proof.Text

@[expose] public section

noncomputable section

namespace Cert.Gather

open Cert.KernelIdeal Cert.KernelIdeal.Gen

open Idealize.ShloMosaic
open Idealize.ShloMosaic.TcCoe
open Idealize.SL Idealize.SL.Sem

variable {F : FTy → Type} [FloatOps F] {m : (ℓ : Loc nD τ sig) → Buf (Elt F) ℓ} {K : Dev nD × Option (Fin 193) → ℕ} {c : Dev nD}

/-- The bit saying that a device receives from the left at step `n - 1`, and the one saying that it receives from the right
    at step `n`. -/
def low (n : BitVec 32) (c : Dev nD) : BitVec 1 := Scalar.cmpi .sge (z8 c) n
def high (n : BitVec 32) (c : Dev nD) : BitVec 1 := Scalar.cmpi .sle (Scalar.addi (Scalar.addi (z8 c) n) 1#32) 3#32

attribute [local irreducible] wh Does

set_option maxHeartbeats 1000000 in
set_option maxRecDepth 65536 in
/-- The last diagonal segment, the local copy, and the first departures. -/
theorem does36 (r : List Instr) (v2 v5 v9 v22 v35 v46 v339 c0 : BitVec 32) (v70 v71 v334 : BitVec 1) :
    Does m K c (flat (diag (zc c) 2 5 1 ++ [[.copied]] ++ drainLow (zc c) 0 3 0 ++ drainLow (zc c) 0 3 1) r) r
      (k0_part36 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c v2 v5 (z8 c) v9 v22 v35 v46 v70 v71 v334 v339 c0) (fun a => a.2.2.1 = low 1#32 c ∧ a.2.2.2 = high 0#32 c) := by
  refine Does.of_eq (by
    simp only [flat, diag, drainLow, List.take_succ_cons, List.take_zero, List.drop_succ_cons, List.drop_zero, List.cons_append, List.nil_append,
      List.append_assoc, List.flatten_cons, List.flatten_nil]
    rfl) ?_
  rw [k0_part36_eq_skeleton]
  delta k0_part36_skel
  repeat' first
    | with_reducible assumption
    | with_reducible exact Does.pure ⟨rfl, rfl⟩
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.recv rfl (by first | exact credit_seg _ _ _ | exact credit_xseg _ _ _)
         | exact Does.done rfl (by first | exact credit_seg _ _ _ | exact credit_xseg _ _ _)
         | exact Does.copied rfl)

set_option maxHeartbeats 1000000 in
set_option maxRecDepth 65536 in
/-- More departures. -/
theorem does37 (r : List Instr) (v35 : BitVec 32) (v70 v71 v345 v348 : BitVec 1) :
    Does m K c (flat (drainHigh (zc c) 0 3 2 ++ drainHigh (zc c) 0 3 3 ++ (drainLow (zc c) 1 4 0).take 3) r) r
      (k0_part37 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c (z8 c) v35 v70 v71 v345 v348 (low 1#32 c) (high 0#32 c)) (fun a => a.2.2.1 = low 2#32 c ∧ a.2.2.2.1 = high 1#32 c ∧ a.2.2.2.2 = Scalar.cmpi .ne (Scalar.extui (high 1#32 c)) 0#32) := by
  refine Does.of_eq (by
    simp only [flat, drainLow, drainHigh, List.take_succ_cons, List.take_zero, List.drop_succ_cons, List.drop_zero, List.cons_append, List.nil_append,
      List.append_assoc, List.flatten_cons, List.flatten_nil]
    rfl) ?_
  rw [k0_part37_eq_skeleton]
  delta k0_part37_skel
  repeat' first
    | with_reducible assumption
    | with_reducible exact Does.pure ⟨rfl, rfl, rfl⟩
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.done rfl (by first | exact credit_seg _ _ _ | exact credit_xseg _ _ _))

set_option maxHeartbeats 1000000 in
set_option maxRecDepth 65536 in
/-- More departures. -/
theorem does38 (r : List Instr) (v35 : BitVec 32) (v70 v71 v386 v389 : BitVec 1) :
    Does m K c (flat ((drainLow (zc c) 1 4 0).drop 3 ++ drainLow (zc c) 1 4 1 ++ drainHigh (zc c) 1 4 2 ++ drainHigh (zc c) 1 4 3) r) r
      (k0_part38 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c (z8 c) v35 v70 v71 v386 v389 (low 2#32 c) (high 1#32 c) (Scalar.cmpi .ne (Scalar.extui (high 1#32 c)) 0#32)) (fun a => a.2.2.1 = low 3#32 c ∧ a.2.2.2 = 2#32) := by
  refine Does.of_eq (by
    simp only [flat, drainLow, drainHigh, List.take_succ_cons, List.take_zero, List.drop_succ_cons, List.drop_zero, List.cons_append, List.nil_append,
      List.append_assoc, List.flatten_cons, List.flatten_nil]
    rfl) ?_
  rw [k0_part38_eq_skeleton]
  delta k0_part38_skel
  repeat' first
    | with_reducible assumption
    | with_reducible exact Does.pure ⟨rfl, rfl⟩
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.done rfl (by first | exact credit_seg _ _ _ | exact credit_xseg _ _ _))

set_option maxHeartbeats 1000000 in
set_option maxRecDepth 65536 in
/-- More departures. -/
theorem does39 (r : List Instr) (v35 : BitVec 32) (v427 v430 : BitVec 1) :
    Does m K c (flat (drainLow (zc c) 2 5 0 ++ drainLow (zc c) 2 5 1 ++ drainHigh (zc c) 2 5 2 ++ (drainHigh (zc c) 2 5 3).take 1) r) r
      (k0_part39 (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12 c (z8 c) v35 v427 v430 (low 3#32 c) (2#32)) (fun a => a = high 2#32 c) := by
  refine Does.of_eq (by
    simp only [flat, drainLow, drainHigh, List.take_succ_cons, List.take_zero, List.drop_succ_cons, List.drop_zero, List.cons_append, List.nil_append,
      List.append_assoc, List.flatten_cons, List.flatten_nil]
    rfl) ?_
  rw [k0_part39_eq_skeleton]
  delta k0_part39_skel
  repeat' first
    | with_reducible assumption
    | with_reducible exact Does.pure rfl
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.done rfl (by first | exact credit_seg _ _ _ | exact credit_xseg _ _ _))

end Cert.Gather

end
-- ==== Proof.Body.lean ====
/-
`Body`: the whole printed program carries out `prog`.

The windows are put one behind the other.
-/
module

public import proofs.«01_k».proof.Proof.TextB
public import proofs.«01_k».proof.Proof.TextC

@[expose] public section

noncomputable section

namespace Cert.Gather

open Cert.KernelIdeal Cert.KernelIdeal.Gen

open Idealize.ShloMosaic
open Idealize.ShloMosaic.TcCoe
open Idealize.SL Idealize.SL.Sem

variable {F : FTy → Type} [FloatOps F] {m : (ℓ : Loc nD τ sig) → Buf (Elt F) ℓ} {K : Dev nD × Option (Fin 193) → ℕ} {c : Dev nD}

/-- The departures left for the end. -/
def lastBlocks (z : ℕ) : List (List Instr) := (drainHigh z 2 5 3).drop 1

set_option maxRecDepth 65536 in
/-- The program of a device, cut where the printed body is cut. -/
theorem prog_cut (z : ℕ) : prog z =
    flat ([[.sig 0, .sig 1, .sig 2, .sig 3, .bar, .copy]])
    (flat (first z 0 ++ first z 1 ++ first z 2 ++ first z 3 ++ along z 0 3 0 ++ (along z 0 3 1).take 1)
    (flat ((along z 0 3 1).drop 1 ++ along z 0 3 2 ++ along z 0 3 3 ++ along z 1 4 0 ++ along z 1 4 1 ++ along z 1 4 2)
    (flat (along z 1 4 3 ++ alongLast z 0 ++ alongLast z 1 ++ alongLast z 2 ++ alongLast z 3)
    (flat (acrossLow z 0 3 0 ++ acrossLow z 0 3 1 ++ acrossHigh z 0 3 2 0)
    (flat (acrossHigh z 0 3 3 1 ++ acrossLow z 1 4 0 ++ (acrossLow z 1 4 1).take 3)
    (flat ((acrossLow z 1 4 1).drop 3 ++ acrossHigh z 1 4 2 0 ++ acrossHigh z 1 4 3 1 ++ (acrossLow z 2 5 0).take 2)
    (flat ((acrossLow z 2 5 0).drop 2 ++ acrossLow z 2 5 1 ++ acrossHigh z 2 5 2 0 ++ acrossHigh z 2 5 3 1)
    (flat (diag z 0 3 0 ++ diag z 0 3 1 ++ diag z 1 4 0 ++ diag z 1 4 1 ++ diag z 2 5 0)
    (flat (diag z 2 5 1 ++ [[.copied]] ++ drainLow z 0 3 0 ++ drainLow z 0 3 1)
    (flat (drainHigh z 0 3 2 ++ drainHigh z 0 3 3 ++ (drainLow z 1 4 0).take 3)
    (flat ((drainLow z 1 4 0).drop 3 ++ drainLow z 1 4 1 ++ drainHigh z 1 4 2 ++ drainHigh z 1 4 3)
    (flat (drainLow z 2 5 0 ++ drainLow z 2 5 1 ++ drainHigh z 2 5 2 ++ (drainHigh z 2 5 3).take 1)
    (flat (lastBlocks z) []))))))))))))) := by
  simp only [prog, blocks, lastBlocks, flat, first, along, alongLast, acrossLow, acrossHigh, diag, drainLow, drainHigh, List.take_succ_cons, List.take_zero,
    List.drop_succ_cons, List.drop_zero, List.cons_append, List.nil_append, List.append_assoc, List.flatten_cons, List.flatten_nil, List.append_nil]

attribute [local irreducible] wh Does

set_option maxHeartbeats 1000000 in
set_option maxRecDepth 65536 in
/-- The printed body carries out the program of its device. -/
theorem does_body : Does m K c (prog (zc c)) []
    (cc0_body (F := F) (Memref.whole main_arg0) (Memref.isWhole_whole _) (Memref.whole main_v1) (Memref.isWhole_whole _)
        cc0_scratch0 cc0_scratch1 cc0_scratch2 cc0_scratch3 cc0_scratch4 cc0_scratch5 cc0_scratch6 cc0_scratch7 cc0_scratch8 cc0_scratch9
        cc0_scratch10 cc0_scratch11 cc0_scratch12) (fun _ => True) := by
  refine Does.of_eq (prog_cut (zc c)) ?_
  rw [cc0_body_eq_skeleton]
  delta cc0_body_skel
  refine Does.bind (does25 _) fun a ha => ?_
  obtain ⟨d0, v2, v5, v8, v9, v22, v32, v35⟩ := a
  obtain ⟨h, h'⟩ := ha
  change d0 = c at h
  obtain rfl : c = d0 := h.symm
  change v8 = _ at h'
  subst h'
  refine Does.bind (does26 _ _ _ _ _) fun a _ => ?_
  obtain ⟨v39, v42, v46, v57, v69, v70, c1⟩ := a
  refine Does.bind (does27 _ _ _ _ _ _ _ _ _ _) fun a _ => ?_
  refine Does.bind (does28 _ _ _ _ _ _ _ _ _ _ _ _ _) fun a _ => ?_
  obtain ⟨v115, v118, v120, v122, v129, c2⟩ := a
  refine Does.bind (does29 _ _ _ _ _ _ _ _ _ _ _ _ _ _ _ _ _) fun a _ => ?_
  obtain ⟨v142, v144, v146, v159, c3⟩ := a
  refine Does.bind (does30 _ _ _ _ _ _ _ _ _ _ _ _ _ _ _ _) fun a _ => ?_
  obtain ⟨v187, v189⟩ := a
  refine Does.bind (does31 _ _ _ _ _ _ _ _ _ _) fun a _ => ?_
  obtain ⟨v190, v192, v194, v219, c4⟩ := a
  refine Does.bind (does32 _ _ _ _ _ _ _ _ _ _ _ _ _ _) fun a _ => ?_
  obtain ⟨v227, v230, v232, v234, v249, c5⟩ := a
  refine Does.bind (does33 _ _ _ _ _ _ _ _ _ _ _ _ _ _) fun a _ => ?_
  obtain ⟨v267, v270, v272, v274, v279, c6⟩ := a
  refine Does.bind (does34 _ _ _ _ _ _ _ _ _ _ _ _ _ _) fun a _ => ?_
  obtain ⟨v307, v309⟩ := a
  refine Does.bind (does35 _ _ _ _ _ _ _ _ _) fun a _ => ?_
  obtain ⟨v334, v339, c7⟩ := a
  refine Does.bind (does36 _ _ _ _ _ _ _ _ _ _ _ _) fun a ha => ?_
  obtain ⟨v345, v348, v349, v352⟩ := a
  obtain ⟨h1, h2⟩ := ha
  change v349 = _ at h1
  subst h1
  change v352 = _ at h2
  subst h2
  refine Does.bind (does37 _ _ _ _ _ _) fun a ha => ?_
  obtain ⟨v386, v389, v390, v393, v401⟩ := a
  obtain ⟨h1, h2, h3⟩ := ha
  change v390 = _ at h1
  subst h1
  change v393 = _ at h2
  subst h2
  change v401 = _ at h3
  subst h3
  refine Does.bind (does38 _ _ _ _ _ _) fun a ha => ?_
  obtain ⟨v427, v430, v431, c8⟩ := a
  obtain ⟨h1, h2⟩ := ha
  change v431 = _ at h1
  subst h1
  change c8 = _ at h2
  subst h2
  refine Does.bind (does39 _ _ _ _) fun a ha => ?_
  subst ha
  refine Does.of_eq (by
    simp only [flat, lastBlocks, drainHigh, List.drop_succ_cons, List.drop_zero, List.cons_append, List.nil_append,
      List.append_assoc, List.flatten_cons, List.flatten_nil]
    rfl) ?_
  repeat' first
    | with_reducible assumption
    | with_reducible exact Does.pure trivial
    | with_reducible refine Does.assoc ?_
    | with_reducible refine Does.pure_bind ?_
    | with_reducible refine Does.block (by clear * -; revert c; decide +kernel) (by simp only [List.cons_append, List.nil_append, List.append_assoc]; rfl) ?_ fun h hX => ?_
    | (with_reducible refine Does.step ?_ ?_
       · first
         | exact Does.done rfl (by first | exact credit_seg _ _ _ | exact credit_xseg _ _ _))

end Cert.Gather

end
-- ==== Proof.Deal.lean ====
/-
`Deal`: the memory a device is launched with, taken apart into what its atoms hold.

The result is its own block and one segment for each transfer it receives, each of which goes, through the barrier, to
the neighbour that will write it. The operand is kept at three shares: one to the end, one for the local copy, and one
cut into the segments the first transfers along `z` read.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains -/

/-- A chain over the transfers, sorted by the neighbour they go to. -/
theorem by_dir (Φ : T → sProp 𝕄) : ∀ l : List T,
    bigSepL l Φ ⊢ iprop(bigSepL (l.filter fun t => t.dir = 0) Φ ∗ bigSepL (l.filter fun t => t.dir = 1) Φ
      ∗ bigSepL (l.filter fun t => t.dir = 2) Φ ∗ bigSepL (l.filter fun t => t.dir = 3) Φ) := by
  intro l
  induction l with
  | nil =>
    simp only [List.filter_nil, bigSepL_nil]
    iintro -
    isplitr; · iempintro
    isplitr; · iempintro
    isplitr <;> iempintro
  | cons t l ih =>
    rw [bigSepL_cons']
    have hd : t.dir = 0 ∨ t.dir = 1 ∨ t.dir = 2 ∨ t.dir = 3 := by generalize t.dir = d; revert d; decide
    refine (sep_mono_right ih).trans ?_
    rcases hd with h | h | h | h <;> simp only [List.filter_cons, h] <;> simp (config := { decide := true }) only [if_true, if_false]
    all_goals rw [bigSepL_cons' t]
    · iintro ⟨H, H0, Hr⟩
      isplitl [H H0]; · isplitl [H] <;> iassumption
      iexact Hr
    · iintro ⟨H, H0, H1, Hr⟩
      isplitl [H0]; · iexact H0
      isplitl [H H1]; · isplitl [H] <;> iassumption
      iexact Hr
    · iintro ⟨H, H0, H1, H2, Hr⟩
      isplitl [H0]; · iexact H0
      isplitl [H1]; · iexact H1
      isplitl [H H2]; · isplitl [H] <;> iassumption
      iexact Hr
    · iintro ⟨H, H0, H1, H2, H3⟩
      isplitl [H0]; · iexact H0
      isplitl [H1]; · iexact H1
      isplitl [H2]; · iexact H2
      isplitl [H] <;> iassumption

/-- A chain split by a test. -/
theorem by_test {I : Type} (p : I → Bool) (l : List I) (Φ : I → sProp 𝕄) :
    bigSepL l Φ = iprop(bigSepL (l.filter p) Φ ∗ bigSepL (l.filter fun i => !p i) Φ) := by
  rw [← bigSepL_append]
  exact bigSepL_of_perm (List.filter_append_perm p l).symm Φ

/-- Disjoint regions taken out of one, in the order of a list. -/
theorem carve {I : Type} {ℓ : Loc nD τ sig} {q : PosShare TreeShare} {f : Buf (Elt F) ℓ} (R : I → Finset (Idx ℓ)) :
    ∀ (l : List I) (S : Finset (Idx ℓ)), (l.Pairwise fun i j => Disjoint (R i) (R j)) → (∀ i ∈ l, R i ⊆ S) →
      (ℓ ↦[S]{q} f : sProp 𝕄) ⊢ bigSepL l fun i => ℓ ↦[R i]{q} f := by
  intro l
  induction l with
  | nil => intro S _ _; rw [bigSepL_nil]; iintro -; iempintro
  | cons i l ih =>
    intro S hd hs
    rw [List.pairwise_cons] at hd
    rw [bigSepL_cons']
    have h : ∀ j ∈ l, R j ⊆ S \ R i := fun j hj =>
      Finset.subset_sdiff.mpr ⟨hs j (List.mem_cons_of_mem _ hj), (hd.1 j hj).symm⟩
    exact (pointsTo_split_subset (hs i List.mem_cons_self)).1.trans (sep_mono_right (ih _ hd.2 h))

/-! ## The result -/

/-- Two segments that begin at different multiples of 256 have no row in common. -/
theorem rowsO_disjoint {r r' : ℕ} (h : r / 256 ≠ r' / 256) (hr : r % 256 = 0) (hr' : r' % 256 = 0) :
    Disjoint (rowsO r 256) (rowsO r' 256) :=
  Finset.disjoint_left.mpr fun i hi hi' => by
    rw [mem_rowsO] at hi hi'
    omega
theorem rowsX_disjoint {r r' : ℕ} (h : r / 256 ≠ r' / 256) (hr : r % 256 = 0) (hr' : r' % 256 = 0) :
    Disjoint (rowsX r 256) (rowsX r' 256) :=
  Finset.disjoint_left.mpr fun i hi hi' => by
    rw [mem_rowsX] at hi hi'
    omega

/-- The segments a device receives: they begin at multiples of 256, not in its own block, -/
theorem segs_all : ((List.finRange 32).all fun c => (recvs (zc c)).all fun t =>
    (t.row (t.src c) % 256 == 0) && (t.row (t.src c) / 4096 != zc c)) = true := by decide +kernel
/-- are different, -/
theorem segs_nodup : ∀ c : Dv, ((recvs (zc c)).map fun t => t.row (t.src c) / 256).Nodup := by decide +kernel
/-- and with its own block are all there are. -/
theorem segs_cover : ((List.finRange 32).all fun c => (List.range 64).all fun n =>
    (n / 16 == zc c) || (recvs (zc c)).any fun t => t.row (t.src c) == 256 * n) = true := by decide +kernel

theorem segs_ok (c : Dv) (t : T) (h : t ∈ recvs (zc c)) : t.row (t.src c) % 256 = 0 ∧ t.row (t.src c) / 4096 ≠ zc c := by
  have := List.all_eq_true.mp (List.all_eq_true.mp segs_all c (List.mem_finRange c)) t h
  simpa using this

/-- The place where a transfer a device receives is to arrive. -/
def placeP (c : Dev nD) (t : T) : sProp 𝕄 :=
  iprop(∃ f : Buf (Elt F) (oL c), oL c ↦[rowsO (t.row (t.src c)) 256]{fullShare} f)

/-- It is the place where the sender's transfer arrives. -/
theorem placeP_land (c : Dev nD) (t : T) : placeP (F := F) c t ⊢ landP (F := F) t (t.src c) := by
  unfold placeP landP
  generalize hX : t.dst (t.src c) = X
  obtain rfl : c = X := (t.dst_src c).symm.trans hX
  exact .rfl

/-- The result is the device's own block and those places. -/
theorem out_split (c : Dev nD) (f : Buf (Elt F) (oL c)) :
    (oL c ↦{fullShare} f : sProp 𝕄)
      ⊢ iprop((oL c ↦[rowsO (zc c * 4096) 4096]{fullShare} f) ∗ bigSepL (recvs (zc c)) (placeP (F := F) c)) := by
  refine (pointsTo_split_subset (Finset.subset_univ (rowsO (zc c * 4096) 4096))).1.trans (sep_mono_right ?_)
  refine (carve (ℓ := oL c) (fun t : T => rowsO (t.row (t.src c)) 256) (recvs (zc c)) _ ?_ ?_).trans
    (bigSepL_mono fun t _ => ?_)
  · refine (List.pairwise_map.mp (segs_nodup c)).imp_of_mem fun {a b} ha hb hab => ?_
    exact rowsO_disjoint hab (segs_ok c a ha).1 (segs_ok c b hb).1
  · intro t ht i hi
    have h := segs_ok c t ht
    refine Finset.mem_sdiff.mpr ⟨Finset.mem_univ i, fun hi' => ?_⟩
    rw [mem_rowsO] at hi hi'
    omega
  · unfold placeP
    iintro H; iexists f; iexact H

/-- What a neighbour sends a device is what it receives from there. -/
theorem sends_nb (c : Dv) (d : Fin 4) :
    (sends (zc (nb d c))).filter (fun t => t.dir = opp d) = (recvs (zc c)).filter fun t => t.dir = opp d := by
  unfold sends recvs
  rw [List.filter_filter, List.filter_filter]
  refine List.filter_congr fun t _ => ?_
  by_cases h : t.dir = opp d
  · rw [rcvd_eq, show t.src c = nb d c from by unfold T.src; rw [h, opp_opp]]
  · simp [h]

/-- The places, handed to the neighbours. -/
theorem places_pay (c : Dev nD) : bigSepL (recvs (zc c)) (placeP (F := F) c)
    ⊢ bigSepL [(0 : Fin 4), 1, 2, 3] fun d => barPay (F := F) (nb d c) (opp d) := by
  have h : bigSepL [(0 : Fin 4), 1, 2, 3] (fun d => bigSepL ((recvs (zc c)).filter fun t => t.dir = d) (placeP (F := F) c))
      = bigSepL [(0 : Fin 4), 1, 2, 3] (fun d => bigSepL ((recvs (zc c)).filter fun t => t.dir = opp d) (placeP (F := F) c)) := by
    rw [← bigSepL_map opp [(0 : Fin 4), 1, 2, 3] (fun d => bigSepL ((recvs (zc c)).filter fun t => t.dir = d) (placeP (F := F) c))]
    exact bigSepL_of_perm (by decide) _
  refine (by_dir _ _).trans ((Entails.of_eq h).trans (bigSepL_mono fun d _ => ?_))
  unfold barPay
  rw [sends_nb]
  refine bigSepL_mono fun t ht => ?_
  have hd : t.dir = opp d := by simpa using (List.mem_filter.mp ht).2
  rw [show nb d c = t.src c from by unfold T.src; rw [hd, opp_opp]]
  exact placeP_land c t

/-! ## The operand -/

/-- The first transfers of a device, and the rows of the operand they read. -/
def starts (z : ℕ) : List T := (sends z).filter (·.own)

theorem starts_nodup : ∀ c : Dv, ((starts (zc c)).filter (fun t => t.kind = .zR)).Pairwise (fun t t' => t.xrow c / 256 ≠ t'.xrow c / 256)
    ∧ ((starts (zc c)).filter (fun t => !decide (t.kind = .zR))).Pairwise (fun t t' => t.xrow c / 256 ≠ t'.xrow c / 256) := by decide +kernel

theorem xrow_mod (t : T) (c : Dv) : t.xrow c % 256 = 0 := by
  unfold T.xrow; omega

/-- The operand at the share the first transfers have, cut into what each reads. -/
theorem src_split (c : Dev nD) : (xL c ↦{fullShare.right.right} m (xL c) : sProp 𝕄) ⊢ bigSepL (starts (zc c)) (srcP m c) := by
  rw [by_test (fun t : T => decide (t.kind = .zR))]
  refine (pointsTo_share (PosShare.mem_left_op_right _)).1.trans (BI.sep_mono ?_ ?_)
  · refine (carve (ℓ := xL c) (fun t : T => rowsX (t.xrow c) 256) _ _
      ((starts_nodup c).1.imp fun h => rowsX_disjoint h (xrow_mod _ c) (xrow_mod _ c)) fun _ _ => Finset.subset_univ _).trans
      (bigSepL_mono fun t ht => ?_)
    obtain ⟨h1, h2⟩ := List.mem_filter.mp ht
    have ho : t.own = true := (List.mem_filter.mp h1).2
    have hk : t.kind = .zR := by simpa using h2
    have hk0 : t.k.val = 0 := by simpa [T.own, hk] using ho
    have hs : t.share = fullShare.right.right.left := by unfold T.share; rw [hk]; exact if_pos hk0
    unfold srcP
    rw [if_pos ho, hs]
  · refine (carve (ℓ := xL c) (fun t : T => rowsX (t.xrow c) 256) _ _
      ((starts_nodup c).2.imp fun h => rowsX_disjoint h (xrow_mod _ c) (xrow_mod _ c)) fun _ _ => Finset.subset_univ _).trans
      (bigSepL_mono fun t ht => ?_)
    obtain ⟨h1, h2⟩ := List.mem_filter.mp ht
    have ho : t.own = true := (List.mem_filter.mp h1).2
    have hk : t.kind = .zL := by
      have h3 : ¬ t.kind = .zR := by simpa using h2
      unfold T.own at ho
      simp only [h3, decide_false, Bool.false_or, Bool.and_eq_true, decide_eq_true_eq] at ho
      exact ho.1
    have hs : t.share = fullShare.right.right.right := by unfold T.share; rw [hk]
    unfold srcP
    rw [if_pos ho, hs]

/-- The operand's three shares. -/
theorem operand_split (c : Dev nD) : (xL c ↦{fullShare} m (xL c) : sProp 𝕄)
    ⊢ iprop((xL c ↦{fullShare.left} m (xL c)) ∗ (xL c ↦{fullShare.right.left} m (xL c)) ∗ bigSepL (starts (zc c)) (srcP m c)) :=
  (pointsTo_share (PosShare.mem_left_op_right _)).1.trans
    (sep_mono_right ((pointsTo_share (PosShare.mem_left_op_right _)).1.trans (sep_mono_right (src_split m c))))

end Cert.Gather

end
-- ==== Proof.Ghosts.lean ====
/-
`Ghosts`: the cells, the positions, the tokens and the credits a launch deals.

Every device starts with the positions of its own cells and with the tokens of the duties it is to pay: one at each
neighbour's barrier, that of its local copy, and for each transfer it sends those of the departure and of the arrival
on the other device. Minted cell by cell, the tokens of the barriers and of the arrivals are exchanged between
neighbours. The launch credits a cell with what all devices together owe it.
-/
module

public import proofs.«01_k».proof.Proof.Deal

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists out of finite sets -/

/-- Different members of a family, listed, out of all of it. -/
theorem pick {I J : Type} [Fintype I] [DecidableEq I] (f : J → I) (l : List J) (h : (l.map f).Nodup) (Φ : I → sProp 𝕄) :
    bigSep Finset.univ Φ ⊢ bigSepL l fun j => Φ (f j) := by
  rw [← bigSepL_map f l Φ, ← bigSep_eq_bigSepL (l.map f) h Φ]
  exact bigSep_subset (Finset.subset_univ _)

/-- A chain of families is the family of the chains. -/
theorem chain_out {C I : Type} (S : Finset C) (l : List I) (Φ : C → I → sProp 𝕄) :
    bigSep S (fun c => bigSepL l (Φ c)) = bigSepL l fun i => bigSep S fun c => Φ c i := by
  induction l with
  | nil => simp only [bigSepL_nil]; exact bigSep_emp_const S
  | cons i l ih =>
    simp only [bigSepL_cons']
    rw [bigSep_sep', ih]

theorem emp_beside (P : sProp 𝕄) : P ⊢ iprop(emp ∗ P) := by
  iintro H
  isplitr; · iempintro
  iexact H
theorem beside_emp (P : sProp 𝕄) : iprop(emp ∗ P) ⊢ P := by
  iintro ⟨-, H⟩; iexact H

/-- A chain over the members that pass a test is one over all members. -/
theorem chain_test {I : Type} (p : I → Bool) (l : List I) (Φ : I → sProp 𝕄) :
    bigSepL (l.filter p) Φ = bigSepL l fun i => if p i = true then Φ i else iprop(emp) := by
  induction l with
  | nil => rfl
  | cons i l ih =>
    rw [bigSepL_cons', List.filter_cons]
    by_cases h : p i = true
    · rw [if_pos h, if_pos h, bigSepL_cons', ih]
    · rw [if_neg h, if_neg h, ih]
      exact (emp_beside _).antisymm (beside_emp _)

/-! ## The cells of a device -/

theorem zc_lt (c : Dv) : zc c < 4 := Nat.mod_lt _ (by decide)

/-- The semaphores a device at depth `z` uses, and those it does not. -/
def used (z : ℕ) : List (Fin 193) := 0 :: ((sends z).map sndS ++ (recvs z).map rcvS)
def absent (z : ℕ) : List (Fin 193) := (List.finRange 193).filter fun i => !(used z).contains i

theorem used_nodup (z : ℕ) (hz : z < 4) : (used z).Nodup := by
  have h : ∀ z : Fin 4, (used z.val).Nodup := by decide +kernel
  exact h ⟨z, hz⟩

theorem mem_absent {z : ℕ} {i : Fin 193} : i ∈ absent z ↔ i ∉ used z := by
  unfold absent
  simp [List.mem_finRange]

theorem slots_nodup (z : ℕ) (hz : z < 4) : (used z ++ absent z).Nodup :=
  List.nodup_append.mpr ⟨used_nodup z hz, (List.nodup_finRange 193).filter _, fun i hi j hj h => mem_absent.mp hj (h ▸ hi)⟩

theorem slots_univ (z : ℕ) : (Finset.univ : Finset (Fin 193)) = (used z ++ absent z).toFinset := by
  ext i
  simp only [Finset.mem_univ, List.mem_toFinset, List.mem_append, true_iff]
  by_cases h : i ∈ used z
  · exact Or.inl h
  · exact Or.inr (mem_absent.mpr h)

/-- All semaphores of a device: those it uses and the others. -/
theorem slots_eq (c : Dev nD) (Φ : Fin 193 → sProp 𝕄) :
    bigSep Finset.univ Φ = iprop(bigSepL (used (zc c)) Φ ∗ bigSepL (absent (zc c)) Φ) := by
  rw [bigSep_univ_eq_bigSepL (used (zc c) ++ absent (zc c)) (slots_univ _) (slots_nodup _ (zc_lt c)), bigSepL_append]

theorem used_eq (z : ℕ) (Φ : Fin 193 → sProp 𝕄) :
    bigSepL (used z) Φ = iprop(Φ 0 ∗ bigSepL (sends z) (fun t => Φ (sndS t)) ∗ bigSepL (recvs z) fun t => Φ (rcvS t)) := by
  unfold used
  rw [bigSepL_cons', bigSepL_append, bigSepL_map, bigSepL_map]

/-- A semaphore a device does not use has no duty. -/
theorem absent_duties (c : Dev nD) (i : Fin 193) (h : i ∈ absent (zc c)) : ∀ r, 0 ≤ r → (Rd (F := F) m).duties (dmaCell c i) r = ∅ := by
  intro r _
  rcases Nat.eq_zero_or_pos r with rfl | hr
  · rw [duties_tc]
    have hall : ∀ z : Fin 4, ((absent z.val).all fun i => match role i with
        | .cp => false | .snd t => !t.sent z.val | .rcv t => !t.rcvd z.val) = true := by decide +kernel
    have h1 := List.all_eq_true.mp (hall ⟨zc c, zc_lt c⟩) i h
    unfold dut
    dsimp only
    cases hr : role i with
    | cp => rw [hr] at h1; exact absurd h1 (by simp)
    | snd t => rw [hr] at h1; exact if_neg (by simpa using h1)
    | rcv t => rw [hr] at h1; exact if_neg (by simpa using h1)
  · exact duties_later m _ r hr

/-! ## The tokens -/

/-- The tokens of the duties at a device's own cells, -/
def ownToks (c : Dev nD) : sProp 𝕄 :=
  iprop((bigSepL [(0 : Fin 4), 1, 2, 3] fun d => dutyTok ER (barCell c) 0 d) ∗ dutyTok ER (cpCell c) 0 0
    ∗ (bigSepL (sends (zc c)) fun t => dutyTok ER (sndCell c t) 0 0) ∗ bigSepL (recvs (zc c)) fun t => dutyTok ER (rcvCell c t) 0 0)

/-- and those of the duties it pays. -/
def payToks (c : Dev nD) : sProp 𝕄 :=
  iprop((bigSepL [(0 : Fin 4), 1, 2, 3] fun d => dutyTok ER (barCell (nb d c)) 0 (opp d)) ∗ dutyTok ER (cpCell c) 0 0
    ∗ (bigSepL (sends (zc c)) fun t => dutyTok ER (sndCell c t) 0 0) ∗ bigSepL (sends (zc c)) fun t => dutyTok ER (rcvCell (t.dst c) t) 0 0)

/-- The duties among four at every cell that are real. -/
def tokList (z : ℕ) : List (Option (Fin 193) × Fin 4) :=
  [(none, 0), (none, 1), (none, 2), (none, 3)] ++ (used z).map fun i => (some i, 0)

theorem tokList_nodup (z : ℕ) (hz : z < 4) : (tokList z).Nodup := by
  refine List.nodup_append.mpr ⟨by decide, (used_nodup z hz).map fun i j h => by simpa using h, fun x hx y hy h => ?_⟩
  obtain ⟨i, -, rfl⟩ := List.mem_map.mp hy
  subst h
  simp at hx

theorem toks_own (c : Dev nD) :
    (bigSep Finset.univ fun k : Option (Fin 193) => bigSep Finset.univ fun d : Fin 4 => dutyTok ER (kcell (c, k)) 0 d : sProp 𝕄) ⊢ ownToks (F := F) c := by
  rw [← bigSep_univ_prod (fun x : Option (Fin 193) × Fin 4 => (dutyTok ER (kcell (c, x.1)) 0 x.2 : sProp 𝕄))]
  refine (pick id (tokList (zc c)) (by rw [List.map_id]; exact tokList_nodup _ (zc_lt c)) _).trans ?_
  unfold tokList ownToks
  rw [bigSepL_append, bigSepL_map, used_eq]
  exact .rfl

/-- A direction as a permutation of the devices, -/
def nbE (d : Fin 4) : Dev nD ≃ Dev nD := ⟨nb d, nb (opp d), opp_nb d, nb_opp d⟩

/-- The barriers' tokens go each to the neighbour that signals; -/
theorem bar_around : (bigSep Finset.univ fun c : Dev nD => bigSepL [(0 : Fin 4), 1, 2, 3] fun d => (dutyTok ER (barCell c) 0 d : sProp 𝕄))
    = bigSep Finset.univ fun c : Dev nD => bigSepL [(0 : Fin 4), 1, 2, 3] fun d => dutyTok ER (barCell (nb d c)) 0 (opp d) := by
  have h : (fun c : Dev nD => bigSepL [(0 : Fin 4), 1, 2, 3] fun d => (dutyTok ER (barCell c) 0 d : sProp 𝕄))
      = fun c : Dev nD => bigSepL [(0 : Fin 4), 1, 2, 3] fun d => dutyTok ER (barCell c) 0 (opp d) := funext fun c => by
    rw [← bigSepL_map opp [(0 : Fin 4), 1, 2, 3] (fun d => (dutyTok ER (barCell c) 0 d : sProp 𝕄))]
    exact bigSepL_of_perm (by decide) _
  rw [h, chain_out, chain_out]
  refine congrArg _ (funext fun d => ?_)
  exact bigSep_univ_equiv (nbE d) fun c => (dutyTok ER (barCell c) 0 (opp d) : sProp 𝕄)

/-- the arrivals' go to the senders. -/
theorem rcv_around : (bigSep Finset.univ fun c : Dev nD => bigSepL (recvs (zc c)) fun t => (dutyTok ER (rcvCell c t) 0 0 : sProp 𝕄))
    = bigSep Finset.univ fun c : Dev nD => bigSepL (sends (zc c)) fun t => dutyTok ER (rcvCell (t.dst c) t) 0 0 := by
  unfold sends recvs
  simp only [chain_test]
  rw [chain_out, chain_out]
  refine congrArg _ (funext fun t => ?_)
  rw [bigSep_univ_equiv (nbE t.dir) fun c => (if t.rcvd (zc c) = true then dutyTok ER (rcvCell c t) 0 0 else iprop(emp) : sProp 𝕄)]
  refine bigSep_congr fun c _ => ?_
  show (if t.rcvd (zc (t.dst c)) = true then dutyTok ER (rcvCell (t.dst c) t) 0 0 else iprop(emp) : sProp 𝕄) = _
  rw [← sent_eq]

theorem toks_around : (bigSep Finset.univ fun c : Dev nD => (ownToks c : sProp 𝕄)) ⊢ bigSep Finset.univ fun c : Dev nD => payToks c := by
  unfold ownToks payToks
  simp only [bigSep_sep']
  rw [bar_around, rcv_around]

/-! ## The credits -/

/-- What a device owes at the beginning. -/
abbrev O₀ (c : Dev nD) : CellTallies nD τ sig Unit := O c (prog (zc c))

theorem bar_iff {a b : Dev nD} : barCell a = barCell b ↔ a = b :=
  ⟨fun h => congrArg (fun g : GSem nD τ sig => g.1.1) h, fun h => h ▸ rfl⟩

/-- A cell of an arrival tells the device and the transfer. -/
theorem rcv_iff {a b : Dev nD} {t t' : T} (h : t.valid = true) (h' : t'.valid = true) : rcvCell a t = rcvCell b t' ↔ a = b ∧ t = t' := by
  constructor
  · intro hg
    have h2 : SemLoc.dma (rcvS t) = (SemLoc.dma (rcvS t') : SemLoc sig) := congrArg Prod.snd hg
    have h3 : rcvS t = rcvS t' := SemLoc.dma.inj h2
    have h4 := role_rcv t h
    rw [h3, role_rcv t' h'] at h4
    exact ⟨congrArg (fun g : GSem nD τ sig => g.1.1) hg, (Role.rcv.inj h4).symm⟩
  · rintro ⟨rfl, rfl⟩; rfl

theorem bar_ne_rcv (a b : Dev nD) (t : T) : barCell a ≠ rcvCell b t := fun h => by
  have h2 : SemLoc.reg barS = (SemLoc.dma (rcvS t) : SemLoc sig) := congrArg Prod.snd h
  cases h2

/-- What steps owe a barrier: one for each signal to it. -/
theorem owed_bar (d c : Dev nD) (l : List Instr) :
    O d l (barCell c) () = ∑ e : Fin 4, l.count (.sig e) * if nb e d = c then 1 else 0 := by
  induction l with
  | nil => simp [O]
  | cons i l ih =>
    rw [O_cons, Pi.add_apply, Finsupp.add_apply, ih]
    have hp : paid d i (barCell c) () = ∑ e : Fin 4, (if i = .sig e then 1 else 0) * if nb e d = c then 1 else 0 := by
      cases i with
      | sig e =>
        rw [Finset.sum_eq_single e (fun e' _ h => by rw [if_neg fun h' => h (Instr.sig.inj h').symm, Nat.zero_mul]) (fun h => absurd (Finset.mem_univ e) h)]
        rw [if_pos rfl, Nat.one_mul]
        show tallyAt (barCell (nb e d)) () 1 (barCell c) () = _
        rw [tallyAt_apply]
        refine if_congr ?_ rfl rfl
        rw [bar_iff]
        exact ⟨fun h => h.1.symm, fun h => ⟨h.symm, rfl⟩⟩
      | send t =>
        show tallyAt (rcvCell (t.dst d) t) () N (barCell c) () = _
        rw [tallyAt_ne_cell (bar_ne_rcv _ _ _)]
        simp
      | _ => simp [paid]
    rw [hp, ← Finset.sum_add_distrib]
    refine Finset.sum_congr rfl fun e _ => ?_
    rw [List.count_cons, Nat.add_mul]
    simp

/-- What steps owe an arrival: its credit for each time the transfer is sent there. -/
theorem owed_rcv (d c : Dev nD) (t : T) (hv : t.valid = true) (l : List Instr) (hl : ∀ t', .send t' ∈ l → t'.valid = true) :
    O d l (rcvCell c t) () = l.count (.send t) * if t.dst d = c then N else 0 := by
  induction l with
  | nil => simp [O]
  | cons i l ih =>
    rw [O_cons, Pi.add_apply, Finsupp.add_apply, ih fun t' h => hl t' (List.mem_cons_of_mem _ h), List.count_cons, Nat.add_mul]
    refine congrArg _ ?_
    cases i with
    | sig e =>
      show tallyAt (barCell (nb e d)) () 1 (rcvCell c t) () = _
      rw [tallyAt_ne_cell (bar_ne_rcv _ _ _).symm]
      simp
    | send t' =>
      show tallyAt (rcvCell (t'.dst d) t') () N (rcvCell c t) () = _
      rw [tallyAt_apply]
      have hi := rcv_iff (a := c) (b := t'.dst d) hv (hl t' List.mem_cons_self)
      by_cases ht : t' = t
      · subst ht
        by_cases hc : t'.dst d = c
        · rw [if_pos ⟨hi.mpr ⟨hc.symm, rfl⟩, rfl⟩]; simp [hc]
        · rw [if_neg fun h => hc (hi.mp h.1).1.symm]; simp [hc]
      · rw [if_neg fun h => ht (hi.mp h.1).2.symm]; simp [ht]
    | _ => simp [paid]

/-- A device signals each neighbour once, and sends each of its transfers once. -/
theorem count_sig : ∀ z : Fin 4, ∀ e : Fin 4, (prog z.val).count (.sig e) = 1 := by decide +kernel
theorem count_send : ∀ z : Fin 4, (allT.all fun t => (prog z.val).count (.send t) == bif t.sent z.val then 1 else 0) = true := by decide +kernel
theorem sends_valid : ∀ z : Fin 4, ((prog z.val).all fun i => match i with | .send t => t.valid | _ => true) = true := by decide +kernel

theorem four : ∀ c : Dv, (∑ d : Dv, ∑ e : Fin 4, if nb e d = c then 1 else 0) = 4 := by decide +kernel

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, ← four c]
  refine Finset.sum_congr rfl fun d _ => ?_
  rw [owed_bar]
  refine Finset.sum_congr rfl fun e _ => ?_
  rw [count_sig ⟨zc d, zc_lt d⟩ e, Nat.one_mul]

theorem launch_rcv (c : Dev nD) (t : T) (h : t.rcvd (zc c) = true) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same]
  have hd (d : Dev nD) : O₀ d (rcvCell c t) () = (bif t.sent (zc d) then 1 else 0) * if t.dst d = c then N else 0 := by
    have hc := List.all_eq_true.mp (count_send ⟨zc d, zc_lt d⟩) t (mem_allT t)
    rw [← eq_of_beq hc]
    exact owed_rcv d c t (valid_of_rcvd t _ h) _ fun t' ht' => List.all_eq_true.mp (sends_valid ⟨zc d, zc_lt d⟩) _ ht'
  rw [Finset.sum_congr rfl fun d _ => hd d, Finset.sum_eq_single (t.src c)]
  · rw [T.dst_src, if_pos rfl, ← rcvd_eq, h]; simp
  · intro d _ hne
    rw [if_neg fun h' => hne (by rw [← h', T.src_dst]), Nat.mul_zero]
  · exact fun h' => absurd (Finset.mem_univ _) h'

/-- The credits a device starts with: four at its barrier, and those of the transfers it receives. -/
theorem creds (c : Dev nD) : (Pipeline.launchCred O₀ c : sProp 𝕄)
    ⊢ iprop(cred (tallyAt (barCell c) () 4) ∗ bigSepL (recvs (zc c)) fun t => cred (tallyAt (rcvCell c t) () N)) := by
  unfold Pipeline.launchCred
  refine (pick id (SemLoc.reg barS :: (recvs (zc c)).map fun t => SemLoc.dma (rcvS t)) ?_ _).trans ?_
  · rw [List.map_id]
    refine List.nodup_cons.mpr ⟨by simp, ?_⟩
    have h := (List.nodup_append.mp (List.nodup_cons.mp (used_nodup (zc c) (zc_lt c))).2).2.1
    have h' := h.map (f := fun i => (SemLoc.dma i : SemLoc sig)) fun i j h => SemLoc.dma.inj h
    rw [List.map_map] at h'
    exact h'
  · rw [bigSepL_cons', bigSepL_map]
    refine BI.sep_mono ?_ (bigSepL_mono fun t ht => ?_)
    · exact Entails.of_eq (congrArg cred (launch_bar c))
    · exact Entails.of_eq (congrArg cred (launch_rcv c t (List.mem_filter.mp ht).2))

end Cert.Gather

end
-- ==== Proof.Plays.lean ====
/-
`Plays`: the plan of `Plan` played from beginning to end, at each of the four depths.
-/
module

public import proofs.«01_k».proof.Proof.Plan

@[expose] public section

namespace Cert.Gather

/-- The program of a device at any of the four depths, played on what it holds at the beginning, finds at every step
    what the step consumes, waits only below everything it still owes, and ends with what is wanted at the end. -/
theorem plays_all : ∀ z : Fin 4, plays z.val = true := by decide +kernel

/-- The same at the depth of a device. -/
theorem plays_dev (c : Dv) : plays (zc c) = true := plays_all ⟨zc c, Nat.mod_lt _ (by decide)⟩

end Cert.Gather
-- ==== Proof.Finish.lean ====
/-
`Finish`: one device, from what it starts with to what it ends with.

The body carries out the program (`does_body`), which played on the atoms dealt ends with the final ones (`plays_dev`);
the cells are then closed, which gives every counter back at zero.
-/
module

public import proofs.«01_k».proof.Proof.Body
public import proofs.«01_k».proof.Proof.Ghosts
public import proofs.«01_k».proof.Proof.Plays
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The positions of the cells a device does not use. -/
def idle (c : Dev nD) : sProp 𝕄 := bigSepL (absent (zc c)) fun i => atPos ER (dmaCell c i) 0 ∅ 0

/-- What a device starts with. -/
def Φ₀ (c : Dev nD) : sProp 𝕄 :=
  iprop((∃ K, facts m K) ∗ bigSepL (init (zc c)) (interp m c) ∗ idle (F := F) c ∗ (xL c ↦{fullShare.left} m (xL c)))

/-- What it ends with in memory: the operand as it was, its own block and the rows received. -/
def endMem (c : Dev nD) : sProp 𝕄 :=
  iprop((xL c ↦{fullShare.left} m (xL c)) ∗ cpPay m c ∗ bigSepL (recvs (zc c)) (keepP m c))

/-- All its counters at zero. -/
def zeros (c : Dev nD) : sProp 𝕄 := iprop(semVal (barCell c) 0 ∗ bigSep Finset.univ fun i : Fin 193 => semVal (dmaCell c i) 0)

def Φ₁ (c : Dev nD) : sProp 𝕄 := iprop(zeros (F := F) c ∗ endMem m c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Closing the cells -/

section Close

variable (K : Dev nD × Option (Fin 193) → ℕ)

/-- A cell past its last round is closed and its counter is zero. -/
theorem close_one (c : Dev nD) (k : Option (Fin 193)) (R : ℕ) (h : ∀ r, R ≤ r → (Rd (F := F) m).duties (kcell (c, k)) r = ∅) :
    iprop(facts m K ∗ atPos ER (kcell (c, k)) R ∅ 0) ⊢ (|={Set.univ}=> semVal (kcell (c, k)) 0 : sProp 𝕄) := by
  have hf := fact_at m K (c, k)
  iintro ⟨#HF, Hat⟩
  ihave Hx := hf $$ HF
  icases Hx with ⟨HI, -⟩
  iapply (Rounds.cell_close ER (Rd m) (Set.mem_univ (K (c, k))) (fun h => h) (R := R) h)
  isplitl [HI] <;> iassumption

theorem close_list (c : Dev nD) (R : ℕ) (l : List (Fin 193)) (h : ∀ i ∈ l, ∀ r, R ≤ r → (Rd (F := F) m).duties (dmaCell c i) r = ∅) :
    iprop(facts m K ∗ bigSepL l fun i => atPos ER (dmaCell c i) R ∅ 0) ⊢ (|={Set.univ}=> bigSepL l fun i => semVal (dmaCell c i) 0 : sProp 𝕄) := by
  induction l with
  | nil => rw [bigSepL_nil, bigSepL_nil]; iintro -; imodintro; iempintro
  | cons i l ih =>
    rw [bigSepL_cons', bigSepL_cons']
    have h1 := close_one m K c (some i) R (h i List.mem_cons_self)
    have h2 := ih fun j hj => h j (List.mem_cons_of_mem _ hj)
    iintro ⟨#HF, Hi, Hl⟩
    imod h1 $$ [Hi] with Hi
    · isplitr; · iexact HF
      iexact Hi
    imod h2 $$ [Hl] with Hl
    · isplitr; · iexact HF
      iexact Hl
    imodintro
    isplitl [Hi] <;> iassumption

/-- The final atoms are the positions past the round and what is held in memory. -/
theorem final_eq (c : Dev nD) : bigSepL (final (zc c)) (interp m c)
    ⊢ iprop(atPos ER (barCell c) 1 ∅ 0 ∗ (bigSepL (used (zc c)) fun i => atPos ER (dmaCell c i) 1 ∅ 0)
      ∗ cpPay m c ∗ bigSepL (recvs (zc c)) (keepP m c)) := by
  unfold final
  rw [used_eq, bigSepL_append, bigSepL_append, bigSepL_append, bigSepL_map, bigSepL_map, bigSepL_map, bigSepL_cons', bigSepL_singleton]
  show iprop((((atPos ER (barCell c) 1 ∅ 0 ∗ (atPos ER (cpCell c) 1 ∅ 0 ∗ cpPay m c)) ∗ (bigSepL (sends (zc c)) fun t => atPos ER (sndCell c t) 1 ∅ 0))
    ∗ (bigSepL (recvs (zc c)) fun t => atPos ER (rcvCell c t) 1 ∅ 0)) ∗ bigSepL (recvs (zc c)) (keepP m c)) ⊢ iprop(atPos ER (barCell c) 1 ∅ 0
    ∗ (atPos ER (cpCell c) 1 ∅ 0 ∗ (bigSepL (sends (zc c)) fun t => atPos ER (sndCell c t) 1 ∅ 0)
      ∗ bigSepL (recvs (zc c)) fun t => atPos ER (rcvCell c t) 1 ∅ 0) ∗ cpPay m c ∗ bigSepL (recvs (zc c)) (keepP m c))
  iintro ⟨⟨⟨⟨Hb, Hc, Hp⟩, Hs⟩, Hr⟩, Hk⟩
  isplitl [Hb]; · iexact Hb
  isplitl [Hc Hs Hr]
  · isplitl [Hc]; · iexact Hc
    isplitl [Hs] <;> iassumption
  isplitl [Hp] <;> iassumption

/-- After the last step everything is closed. -/
theorem finish (c : Dev nD) : iprop(facts m K ∗ idle (F := F) c ∗ (xL c ↦{fullShare.left} m (xL c)) ∗ bigSepL (final (zc c)) (interp m c))
    ⊢ (|={Set.univ}=> Φ₁ m c : sProp 𝕄) := by
  have h1 := close_one m K c none 1 (duties_later m (barCell c))
  have h2 := close_list m K c 1 (used (zc c)) fun i _ => duties_later m (dmaCell c i)
  have h3 := close_list m K c 0 (absent (zc c)) fun i hi => absent_duties m c i hi
  refine (sep_mono_right (sep_mono_right (sep_mono_right (final_eq m c)))).trans ?_
  unfold idle Φ₁ zeros endMem
  iintro ⟨#HF, Hid, Hx, Hb, Hu, Hcp, Hk⟩
  imod h1 $$ [Hb] with Hb
  · isplitr; · iexact HF
    iexact Hb
  imod h2 $$ [Hu] with Hu
  · isplitr; · iexact HF
    iexact Hu
  imod h3 $$ [Hid] with Hid
  · isplitr; · iexact HF
    iexact Hid
  imodintro
  isplitl [Hb Hu Hid]
  · isplitl [Hb]; · iexact Hb
    rw [slots_eq c]
    isplitl [Hu] <;> iassumption
  isplitl [Hx]; · iexact Hx
  isplitl [Hcp] <;> iassumption

end Close

/-! ## The body -/

/-- With no step to come there is nothing left to do. -/
theorem sat_end (K : Dev nD × Option (Fin 193) → ℕ) (c : Dev nD) (u : PUnit) : Sat m K c [] (.ret u : Code F PUnit) := by
  intro st s' h Q V
  obtain rfl : st = s' := by simpa [run] using h
  unfold WP
  rw [wp_ret]
  iintro ⟨-, Hs, Ho, Hk⟩
  imodintro
  iapply Hk
  isplitl [Hs]; · iexact Hs
  iexists V
  iexact Ho

/-- The printed body, from what a device starts with to what it ends with. -/
theorem sound (c : Dev nD) (V : Waits sig Unit) :
    iprop(Φ₀ m c ∗ owes (c : Thread nD τ) (O₀ c) V)
      ⊢ WP c (cc0_body (F := F) (Memref.whole main_arg0) (Memref.isWhole_whole _) (Memref.whole main_v1) (Memref.isWhole_whole _)
          cc0_scratch0 cc0_scratch1 cc0_scratch2 cc0_scratch3 cc0_scratch4 cc0_scratch5 cc0_scratch6 cc0_scratch7 cc0_scratch8 cc0_scratch9
          cc0_scratch10 cc0_scratch11 cc0_scratch12) (fun _ => iprop(Φ₁ m c ∗ ∃ V', owes (c : Thread nD τ) 0 V')) := by
  have hp := plays_dev c
  unfold plays at hp
  cases hr : run (zc c) (prog (zc c)) (init (zc c)) with
  | none => rw [hr] at hp; exact absurd hp (by simp)
  | some s =>
    rw [hr] at hp
    obtain ⟨s', hs'⟩ := Option.isSome_iff_exists.mp hp
    have ht := takeOut_sound (interp m c) _ _ _ hs'
    unfold Φ₀
    iintro ⟨⟨⟨%K, #HF⟩, Hst, Hid, Hx⟩, Ho⟩
    have hd := does_body (m := m) (K := K) (c := c) (fun u => .ret u) (fun u _ => sat_end m K c u) _ _ hr
      (fun _ => iprop(|={Set.univ}=> (Φ₁ m c ∗ ∃ V', owes (c : Thread nD τ) 0 V'))) V
    rw [show ∀ p : Code F PUnit, (p >>= fun u => .ret u) = p from fun p => bind_pure p] at hd
    have hf := finish m K c
    unfold WP at hd ⊢
    iapply (wp_fupd _ _ _ _)
    iapply hd
    isplitr; · iexact HF
    isplitl [Hst]; · iexact Hst
    isplitl [Ho]; · iexact Ho
    iintro ⟨Hs, Ho⟩
    ihave Hs := ht $$ Hs
    icases Hs with ⟨Hs, -⟩
    imod hf $$ [Hid Hx Hs] with HΦ
    · isplitr; · iexact HF
      isplitl [Hid]; · iexact Hid
      isplitl [Hx] <;> iassumption
    imodintro
    isplitl [HΦ] <;> iassumption

/-- Owing nothing is within any bound. -/
theorem leave (c : Dev nD) : iprop(Φ₁ m c ∗ ∃ V', owes (c : Thread nD τ) 0 V')
    ⊢ iprop(Φ₁ m c ∗ (dats (F := F) m 0 c).owesAt () t0_0.succ ∗ emp) := by
  unfold Dat.owesAt Pipeline.owesWithin
  iintro ⟨HΦ, ⟨%V, Ho⟩⟩
  isplitl [HΦ]; · iexact HΦ
  isplitl [Ho]
  · iexists V
    isplitr
    · ipureintro; exact fun _ _ => Or.inl trivial
    iexact Ho
  iempintro

/-- The library's body obligation on device `c`. -/
theorem body_obligation (c : Dev nD) : BodyObligation (dats (F := F) m 0 c) (defs₀ (F := F)) 𝒱₀ () Set.univ := fun t => by
  rw [fin_N0 t]
  rw [Finset.univ_eq_empty, BI.bigSep_empty, BI.bigSep_empty]
  show iprop(Φ₀ m c ∗ (dats (F := F) m 0 c).owesAt () t0_0.castSucc ∗ emp)
    ⊢ WP c (cc0_body (F := F) (Memref.whole main_arg0) (Memref.isWhole_whole _) (Memref.whole main_v1) (Memref.isWhole_whole _)
          cc0_scratch0 cc0_scratch1 cc0_scratch2 cc0_scratch3 cc0_scratch4 cc0_scratch5 cc0_scratch6 cc0_scratch7 cc0_scratch8 cc0_scratch9
          cc0_scratch10 cc0_scratch11 cc0_scratch12) fun _ => iprop(Φ₁ m c ∗ (dats (F := F) m 0 c).owesAt () t0_0.succ ∗ emp)
  have hs := fun V => (sound m c V).trans (wp_mono frame (wpE (defs₀ (F := F)) 𝒱₀ (c : Thread nD τ) none) Set.univ
    (Q' := fun _ => iprop(Φ₁ m c ∗ (dats (F := F) m 0 c).owesAt () t0_0.succ ∗ emp)) fun _ => leave m c)
  unfold Dat.owesAt Pipeline.owesWithin
  iintro ⟨HΦ, ⟨%V, -, Ho⟩, -⟩
  iapply (hs V)
  isplitl [HΦ]; · iexact HΦ
  iexact Ho

end Cert.Gather

end
-- ==== Proof.Launch.lean ====
/-
`Launch`: the run of the whole program on all devices.

The launch makes an invariant of every cell and deals each device the atoms its program starts with; `Finish` takes them
through the body; here the parts are put together and the final memory is read off.
-/
module

public import proofs.«01_k».proof.Proof.Finish
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Funding -/

abbrev osem : Fin 193 → SemLoc sig := fun i => .dma i

theorem ownSemFacts : Pipeline.OwnSemFacts cfg0.spec osem :=
  ⟨by decide +kernel, fun i j h => by simpa using h, fun _ w => w.elim0⟩

theorem kcell_injective : Function.Injective (kcell : Dev nD × Option (Fin 193) → GSem nD τ sig) := by
  rintro ⟨c, k⟩ ⟨c', k'⟩ h
  have hc : (kcell (c, k)).1.1 = (kcell (c', k')).1.1 := congrArg (fun g => g.1.1) h
  have hs : (kcell (c, k)).2 = (kcell (c', k')).2 := congrArg (fun g => g.2) h
  cases k with
  | none =>
    cases k' with
    | none => exact congrArg (fun c => (c, none)) hc
    | some j => exact absurd hs (fun h => by cases h)
  | some i =>
    cases k' with
    | none => exact absurd hs (fun h => by cases h)
    | some j =>
      have hij : i = j := SemLoc.dma.inj hs
      obtain rfl := hij
      exact congrArg (fun c => (c, some i)) hc

def allCells : Finset (GSem nD τ sig) := Finset.univ.map ⟨kcell, kcell_injective⟩

/-- Four duties at every cell; those that are no duty of it are of no use. -/
abbrev tokOf (x : (Dev nD × Option (Fin 193)) × Fin 4) : GSem nD τ sig × ℕ × Fin 4 := (kcell x.1, 0, x.2)

theorem tokOf_injective : Function.Injective tokOf := by
  rintro ⟨x, d⟩ ⟨x', d'⟩ h
  have h1 : x = x' := kcell_injective (congrArg Prod.fst h)
  have h2 : d = d' := congrArg (fun y : GSem nD τ sig × ℕ × Fin 4 => y.2.2) h
  rw [h1, h2]

def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- What the launch deals device `c`, -/
def G (c : Dev nD) : sProp 𝕄 :=
  iprop((bigSep Finset.univ fun k : Option (Fin 193) => roundState ER (Rd m) (kcell (c, k)) 0)
    ∗ (bigSep Finset.univ fun k : Option (Fin 193) => iprop(atPos ER (kcell (c, k)) 0 ∅ 0 ∗ reached ER (kcell (c, k)) 0)) ∗ ownToks c)

/-- and what is made of it for all devices together. -/
def G' (c : Dev nD) : sProp 𝕄 :=
  iprop(∃ K, bigSep Finset.univ (fact m K) ∗ (bigSep Finset.univ fun k : Option (Fin 193) => atPos ER (kcell (c, k)) 0 ∅ 0) ∗ payToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option (Fin 193) => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => ownToks c := by
    unfold allToks; rw [bigSep_map, bigSep_univ_prod, bigSep_univ_prod]
    exact bigSep_mono fun c _ => toks_own c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The invariants -/

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All cells of a device: its barrier's and those of its semaphores. -/
theorem cells_all (Φ : Option (Fin 193) → sProp 𝕄) :
    bigSep Finset.univ Φ = iprop(Φ none ∗ bigSep Finset.univ fun i : Fin 193 => Φ (some i)) := by
  rw [bigSep_univ_eq_bigSepL (none :: (List.finRange 193).map some) (by ext i; cases i <;> simp)
      (List.nodup_cons.mpr ⟨by simp, (List.nodup_finRange 193).map (Option.some_injective _)⟩),
    bigSepL_cons', bigSepL_map, bigSep_univ_eq_bigSepL (List.finRange 193) (by ext i; simp) (List.nodup_finRange 193)]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 193) => semVal (kcell (c, k)) 0 : sProp 𝕄) := by
  rw [unscopedSems0_eq, cells_all]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 193) => semVal (kcell (c, k)) 0) ∗ bigSep Finset.univ fun k : Option (Fin 193) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A persistent thing goes to every member. -/
theorem to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun x : Dev nD × Option (Fin 193) => iprop(∃ κ : ℕ, cellInv ER (Rd m) κ (kcell x))),
    bigSep_congr (s := Finset.univ) (fun (c : Dev nD) _ => bigSep_sep' Finset.univ (fun k : Option (Fin 193) => (atPos ER (kcell (c, k)) 0 ∅ 0 : sProp 𝕄)) (fun k => reached ER (kcell (c, k)) 0)),
    bigSep_sep', ← bigSep_univ_prod (fun x : Dev nD × Option (Fin 193) => (reached ER (kcell x) 0 : sProp 𝕄))]
  iintro ⟨HI, ⟨Hat, #HR⟩, Htok⟩
  ihave HK := (BI.bigSep_exists_pi Finset.univ (fun (x : Dev nD × Option (Fin 193)) (κ : ℕ) => (cellInv ER (Rd m) κ (kcell x) : sProp 𝕄))) $$ HI
  icases HK with ⟨%K, #HI⟩
  ihave Htk := (toks_around (F := F)) $$ Htok
  have hdeal := to_all (S := (Finset.univ : Finset (Dev nD))) (R := bigSep Finset.univ (fact m K))
    (Φ := fun c => iprop((bigSep Finset.univ fun k : Option (Fin 193) => atPos ER (kcell (c, k)) 0 ∅ 0) ∗ payToks c)) (Ψ := G' m) fun c _ => by
      unfold G'
      iintro ⟨HF, Ha, Ht⟩
      iexists K
      isplitl [HF]; · iexact HF
      isplitl [Ha] <;> iassumption
  iapply hdeal
  isplitr
  · iapply (show iprop((bigSep Finset.univ fun x => cellInv ER (Rd m) (K x) (kcell x)) ∗ bigSep Finset.univ fun x => reached ER (kcell x) 0)
      ⊢ bigSep Finset.univ (fact m K) from Entails.of_eq (bigSep_sep' _ _ _).symm)
    isplitl
    · iexact HI
    · iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The start -/

/-- Two chains over one list, in one, with what is known of the members. -/
theorem zip_up {I : Type} (p : I → Prop) (Φ Ψ : I → sProp 𝕄) (l : List I) (h : ∀ i ∈ l, p i) :
    iprop(bigSepL l Φ ∗ bigSepL l Ψ) ⊢ bigSepL l fun i => iprop(⌜p i⌝ ∗ Φ i ∗ Ψ i) := by
  induction l with
  | nil => rw [bigSepL_nil, bigSepL_nil, bigSepL_nil]; iintro -; iempintro
  | cons i l ih =>
    rw [bigSepL_cons', bigSepL_cons', bigSepL_cons']
    have h2 := ih fun j hj => h j (List.mem_cons_of_mem _ hj)
    iintro ⟨⟨H1, H2⟩, H3, H4⟩
    isplitl [H1 H3]
    · isplitr; · ipureintro; exact h i List.mem_cons_self
      isplitl [H1] <;> iassumption
    iapply h2
    isplitl [H2] <;> iassumption

/-- One chain, with what is known of the members. -/
theorem mark {I : Type} (p : I → Prop) (Φ : I → sProp 𝕄) (l : List I) (h : ∀ i ∈ l, p i) :
    bigSepL l Φ ⊢ bigSepL l fun i => iprop(⌜p i⌝ ∗ Φ i) := by
  refine bigSepL_mono fun i hi => ?_
  iintro H
  isplitr; · ipureintro; exact h i hi
  iexact H

theorem sent_of {z : ℕ} {t : T} (h : t ∈ sends z) : t.sent z = true := (List.mem_filter.mp h).2
theorem rcvd_of {z : ℕ} {t : T} (h : t ∈ recvs z) : t.rcvd z = true := (List.mem_filter.mp h).2

/-- The atoms at the start, kind by kind. -/
theorem init_eq (c : Dev nD) :
    iprop((((((bigSepL [(0 : Fin 4), 1, 2, 3] fun d => iprop(dutyTok ER (barCell (nb d c)) 0 (opp d) ∗ barPay (F := F) (nb d c) (opp d)))
        ∗ interp m c .bar ∗ interp m c .cp0)
      ∗ bigSepL (starts (zc c)) (srcP m c))
      ∗ bigSepL (sends (zc c)) fun t => iprop(⌜t.sent (zc c) = true⌝ ∗ dutyTok ER (sndCell c t) 0 0 ∗ dutyTok ER (rcvCell (t.dst c) t) 0 0))
      ∗ bigSepL (sends (zc c)) fun t => iprop(⌜t.sent (zc c) = true⌝ ∗ atPos ER (sndCell c t) 0 ∅ 0))
      ∗ bigSepL (recvs (zc c)) fun t => iprop(⌜t.rcvd (zc c) = true⌝ ∗ atPos ER (rcvCell c t) 0 ∅ 0 ∗ cred (tallyAt (rcvCell c t) () N)))
    ⊢ bigSepL (init (zc c)) (interp m c) := by
  unfold init starts
  rw [bigSepL_append, bigSepL_append, bigSepL_append, bigSepL_append, bigSepL_map, bigSepL_map, bigSepL_map, bigSepL_map]
  refine sep_mono_left (sep_mono_left (sep_mono_left (sep_mono_left ?_)))
  show iprop((interp m c (.sig 0) ∗ interp m c (.sig 1) ∗ interp m c (.sig 2) ∗ interp m c (.sig 3)) ∗ interp m c .bar ∗ interp m c .cp0)
    ⊢ iprop(interp m c (.sig 0) ∗ interp m c (.sig 1) ∗ interp m c (.sig 2) ∗ interp m c (.sig 3) ∗ interp m c .bar ∗ interp m c .cp0)
  iintro ⟨⟨H0, H1, H2, H3⟩, H4, H5⟩
  isplitl [H0]; · iexact H0
  isplitl [H1]; · iexact H1
  isplitl [H2]; · iexact H2
  isplitl [H3]; · iexact H3
  isplitl [H4] <;> iassumption

/-- Chains over one list, in one. -/
theorem zip {I : Type} (Φ Ψ : I → sProp 𝕄) (l : List I) : iprop(bigSepL l Φ ∗ bigSepL l Ψ) ⊢ bigSepL l fun i => iprop(Φ i ∗ Ψ i) := by
  refine (zip_up (fun _ => True) Φ Ψ l fun _ _ => trivial).trans (bigSepL_mono fun i _ => ?_)
  iintro ⟨-, H⟩; iexact H

/-- The positions of a device's cells: the barrier's, those it uses and the idle ones. -/
theorem positions (c : Dev nD) : (bigSep Finset.univ fun k : Option (Fin 193) => atPos ER (kcell (c, k)) 0 ∅ 0 : sProp 𝕄)
    ⊢ iprop(atPos ER (barCell c) 0 ∅ 0 ∗ (atPos ER (cpCell c) 0 ∅ 0 ∗ (bigSepL (sends (zc c)) fun t => atPos ER (sndCell c t) 0 ∅ 0)
      ∗ bigSepL (recvs (zc c)) fun t => atPos ER (rcvCell c t) 0 ∅ 0) ∗ idle (F := F) c) := by
  rw [cells_all, slots_eq c, used_eq]
  unfold idle
  exact .rfl

/-- Out of what a device is dealt comes what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  have hx := operand_split m c
  have ho := out_split c (m (oL c))
  have hp := places_pay (F := F) c
  have hc := creds (F := F) c
  have ha := positions (F := F) c
  have hib : iprop(atPos ER (barCell c) 0 ∅ 0 ∗ cred (tallyAt (barCell c) () 4)) ⊢ interp m c .bar := .rfl
  have hic : iprop(dutyTok ER (cpCell c) 0 0 ∗ atPos ER (cpCell c) 0 ∅ 0 ∗ (xL c ↦{fullShare.right.left} m (xL c))
      ∗ ∃ f : Buf (Elt F) (oL c), oL c ↦[rowsO (zc c * 4096) 4096]{fullShare} f) ⊢ interp m c .cp0 := .rfl
  unfold Φ₀ G' payToks
  iintro ⟨⟨Hx, Hout⟩, Hlev, Hcr, -, ⟨%K, HF, Hpos, Htb, Htc, Hts, Htr⟩⟩
  ihave Hx := hx $$ Hx
  icases Hx with ⟨Hxl, Hxr, Hsrc⟩
  ihave Hout := ho $$ Hout
  icases Hout with ⟨Hown, Hpl⟩
  ihave Hpl := hp $$ Hpl
  ihave Hcr := hc $$ Hcr
  icases Hcr with ⟨Hcb, Hcv⟩
  ihave Hpos := ha $$ Hpos
  icases Hpos with ⟨Hab, ⟨Hac, Has, Har⟩, Hid⟩
  imodintro
  isplitl
  · isplitl [HF Hlev]
    · iexists K
      unfold facts
      isplitl [HF] <;> iassumption
    isplitr [Hid Hxl]
    · iapply (init_eq m c)
      isplitr [Har Hcv]
      · isplitr [Has]
        · isplitr [Hts Htr]
          · isplitr [Hsrc]
            · isplitl [Htb Hpl]
              · iapply (zip _ _ _)
                isplitl [Htb] <;> iassumption
              isplitl [Hab Hcb]
              · iapply hib
                isplitl [Hab] <;> iassumption
              · iapply hic
                isplitl [Htc]; · iexact Htc
                isplitl [Hac]; · iexact Hac
                isplitl [Hxr]; · iexact Hxr
                iexists m (oL c)
                iexact Hown
            iexact Hsrc
          iapply (zip_up (fun t : T => t.sent (zc c) = true) _ _ _ fun t ht => sent_of ht)
          isplitl [Hts] <;> iassumption
        iapply (mark (fun t : T => t.sent (zc c) = true) _ _ fun t ht => sent_of ht)
        iexact Has
      iapply (zip_up (fun t : T => t.rcvd (zc c) = true) _ _ _ fun t ht => rcvd_of ht)
      isplitl [Har] <;> iassumption
    isplitl [Hid] <;> iassumption
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  show _ ⊢ Φ₀ m c
  iintro ⟨Hs, -, -⟩
  iexact Hs

theorem phi1_exit (c : Dev nD) :
    (dats m 0 c).Φ (Fin.last cfg0.N) ⊢ iprop((unscopedSems0 c ∗ endMem m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ zeros Pipeline.ownSems0
  iintro ⟨⟨Hb, Hs⟩, Hm⟩
  isplitl [Hb Hm]
  · isplitl [Hb] <;> iassumption
  isplitl [Hs]; · iexact Hs
  iempintro

/-! ## The end -/

/-- The result: the device's own block, and elsewhere what the other devices of its z-line held. -/
def gathered (c : Dev nD) : Buf (Elt F) (oL c) := fun i => if (i 0).val / 4096 = zc c then own m c i else W m c i

/-- Every row is the device's own or received. -/
theorem gathered_of (c : Dev nD) (g : Buf (Elt F) (oL c)) (h1 : ∀ i ∈ rowsO (zc c * 4096) 4096, g i = own m c i)
    (h2 : ∀ t ∈ recvs (zc c), ∀ i ∈ rowsO (t.row (t.src c)) 256, g i = W m c i) : g = gathered m c := by
  funext i
  have hi : (i 0).val < 16384 := (i 0).isLt
  unfold gathered
  by_cases h : (i 0).val / 4096 = zc c
  · rw [if_pos h]
    exact h1 i (mem_rowsO.mpr ⟨by omega, by omega⟩)
  · rw [if_neg h]
    have hc := List.all_eq_true.mp (List.all_eq_true.mp segs_cover c (List.mem_finRange c)) ((i 0).val / 256) (List.mem_range.mpr (by omega))
    rw [Bool.or_eq_true] at hc
    rcases hc with hc | hc
    · exact absurd (by rw [← eq_of_beq hc]; omega) h
    · obtain ⟨t, ht, hr⟩ := List.any_eq_true.mp hc
      exact h2 t ht i (mem_rowsO.mpr (by have := eq_of_beq hr; omega))

theorem read_keeps (c : Dev nD) (s' : Phys nD τ sig (Elt F)) (l : List T) :
    iprop(bigSepL l (keepP m c) ∗ SI s')
      ⊢ (iprop(⌜∀ t ∈ l, ∀ i ∈ rowsO (t.row (t.src c)) 256, s'.mem.mem (oL c) i = W m c i⌝ ∗ SI s') : sProp 𝕄) := by
  induction l with
  | nil =>
    iintro ⟨-, H⟩
    isplitr
    · ipureintro; intro t ht; cases ht
    iexact H
  | cons t l ih =>
    rw [bigSepL_cons']
    have ht : keepP m c t ⊢ (oL c ↦[rowsO (t.row (t.src c)) 256]{fullShare.left} W m c : sProp 𝕄) := .rfl
    iintro ⟨⟨Ht, Hl⟩, HSI⟩
    ihave Ht := ht $$ Ht
    icombine HSI Ht gives %h
    ihave H2 := ih $$ [Hl HSI]
    · isplitl [Hl] <;> iassumption
    icases H2 with ⟨%h2, HSI⟩
    isplitr
    · ipureintro
      intro t' ht'
      rcases List.mem_cons.mp ht' with rfl | ht'
      · exact h
      · exact h2 t' ht'
    iexact HSI

/-- What is read of a device at the end. -/
def QY (c : Dev nD) (s : MemSt nD τ sig (Elt F)) : Prop :=
  (∀ sm : SemLoc sig, sm.isScoped .tc = false → s.sem ((c.tc : Thread nD τ), sm) = 0)
    ∧ s.mem (xL c) = m (xL c) ∧ s.mem (oL c) = gathered m c

theorem read_end (c : Dev nD) (s' : Phys nD τ sig (Elt F)) :
    iprop((unscopedSems0 c ∗ endMem m c) ∗ emp ∗ SI s') ⊢ (|={Set.univ}=> iprop(⌜QY m c s'.mem⌝ ∗ SI s') : sProp 𝕄) := by
  have hk := read_keeps m c s' (recvs (zc c))
  have hu := Pipeline.unscopedSems0_read (X := (unscopedSems0 c : sProp 𝕄)) (c := c) fupd_intro s'
  have hcp : cpPay m c ⊢ (oL c ↦[rowsO (zc c * 4096) 4096]{fullShare} own m c : sProp 𝕄) := .rfl
  unfold endMem
  iintro ⟨⟨Hu, Hx, Hcp, Hk⟩, -, HSI⟩
  ihave Hcp := hcp $$ Hcp
  icombine HSI Hx gives %h1
  icombine HSI Hcp gives %h2
  ihave Hk := hk $$ [Hk HSI]
  · isplitl [Hk] <;> iassumption
  icases Hk with ⟨%h3, HSI⟩
  imod hu $$ [Hu HSI] with ⟨%h4, HSI⟩
  · isplitl [Hu] <;> iassumption
  imodintro
  isplitr
  · ipureintro
    exact ⟨h4, Buf.eq_of_forall_mem_univ h1, gathered_of m c _ h2 h3⟩
  iexact HSI

/-! ## The run -/

set_option maxRecDepth 8000 in
/-- For any float values, from any memory with all counters at zero: every weakly fair run of the program on the 32
    devices ends, and then every device has its operand as it was and in its result the blocks of its z-line, and every
    counter is at zero. -/
theorem run_main : θ_run defs (onTc (τ := τ) (main (F := F))) ⟨m, fun _ => 0, ρ⟩
    (fun r => (∀ c : Dev nD, r.2.mem (xL c) = m (xL c) ∧ r.2.mem (oL c) = gathered m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := Φ₀ m) (Y := fun c => iprop(unscopedSems0 c ∗ endMem m c)) (Z := fun _ => iprop(emp))
    (hX := start_intro m ρ) (hin := phi0_intro m) (hout := phi1_exit m)
    (QY := QY m) (hY := read_end m)
    (hQ := fun _ h hs => ⟨fun c => (h c).2.2.2, sem_eq_zero hs fun c => (h c).2.2.1⟩)

end Cert.Gather

end
-- ==== Proof.Value.lean ====
/-
`Value`: what the run leaves is the whole array.

Where every device's operand is its block of one array, the gathered result of every device is that array.
-/
module

public import proofs.«01_k».proof.Proof.Launch
public import Idealize.ShloMosaic.Lib.Layout
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Row `i` of the array is row `i % 4096` of the block of the devices at depth `i / 4096`. -/
theorem block_at (c : Dev nD) (v : S16384x1024.Idx → Elt F .f32) (i : S16384x1024.Idx) (h : zc c = (i 0).val / 4096) :
    (Layout.blockN ⟨2, ![4096, 1024]⟩ ⟨2, ![16384, 1024]⟩ (Layout.meshBlock [2, 4, 4] ![[2], []] c) v : S4096x1024.Idx → Elt F .f32) (inBlk i) = v i := by
  rw [Layout.blockN_apply]
  refine congrArg v (funext fun a => Fin.ext ?_)
  have hc : Layout.meshLin [2, 4, 4] c.val [2] = zc c := by
    unfold zc; simp [Layout.meshLin, Layout.meshCoord, Layout.cutSize]
  match a with
  | ⟨0, _⟩ =>
    show Layout.meshLin [2, 4, 4] c.val [2] * 4096 + (i 0).val % 4096 = (i 0).val
    rw [hc, h]; omega
  | ⟨1, _⟩ =>
    show 0 * 1024 + (i 1).val = (i 1).val
    omega

theorem zc_src (c : Dev nD) (r : ℕ) (hr : r < 16384) : zc (srcDev c r) = r / 4096 := by
  show (16 * (r % 4096 / 1024 / 2) + 4 * (2 * (c.val % 16 / 8) + r % 4096 / 1024 % 2) + r / 4096) % 32 % 4 = r / 4096
  omega

/-- If every device's operand is its block of `v`, the result of every device is `v`. -/
theorem gathered_eq (v : S16384x1024.Idx → Elt F .f32)
    (h : ∀ c : Dev nD, m (xL c) = Layout.blockN ⟨2, ![4096, 1024]⟩ ⟨2, ![16384, 1024]⟩ (Layout.meshBlock [2, 4, 4] ![[2], []] c) v)
    (c : Dev nD) : gathered m c = v := by
  funext i
  have hi : (i 0).val < 16384 := (i 0).isLt
  unfold gathered
  by_cases hz : (i 0).val / 4096 = zc c
  · rw [if_pos hz]
    unfold own
    rw [h c]
    exact block_at c v i hz.symm
  · rw [if_neg hz]
    unfold W
    rw [h (srcDev c (i 0).val)]
    exact block_at _ v i (zc_src c _ hi)

end Cert.Gather

end
-- ==== Proof.Claims.lean ====
/-
`Claims`: the five claims of the certificate.

The kernel as printed and its idealization are one text, so the run of `Launch`, which holds for any float values, gives
both of them their frames. The reference returns its argument and does nothing.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal
public import Idealize.ShloMosaic.Lib.StableHlo.Run
public import Idealize.ShloMosaic.Lib.Quiescent

@[expose] public section

noncomputable section

namespace Cert.Gather

open Idealize.ShloMosaic Idealize.SL.Sem

/-! ## The reference -/

section Reference

open Cert.ReferenceIdeal Cert.ReferenceIdeal.Gen

/-- The reference is a program of no operation: from any memory it ends, its argument, which is its result, unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m ρ)

end Reference

/-! ## The frames -/

/-- The kernel as printed ends with its operand unchanged and every counter at zero. -/
theorem frame_kernel : Cert.quiescent_Kernel := fun m ρ _ =>
  (θ_run Cert.KernelIdeal.defs _ _).mono (fun _ h => ⟨fun c => (h.1 c).1, h.2⟩) (run_main (F := Bits) m ρ)

/-- So does its idealization, -/
theorem frame_ideal : Cert.quiescent_KernelIdeal := fun m ρ _ =>
  (θ_run Cert.KernelIdeal.defs _ _).mono (fun _ h => ⟨fun c => (h.1 c).1, h.2⟩) (run_main (F := Ideal) m ρ)

/-- and the reference, which has no counter. -/
theorem frame_reference : Cert.quiescent_ReferenceIdeal := fun m ρ _ =>
  (θ_run Cert.ReferenceIdeal.defs _ _).mono (fun r h => ⟨h, sem_eq_zero_of_no_sems (by decide) r.2⟩) (reference_run m ρ)

/-! ## The value -/

/-- Where every device holds its block of the reference's array, every device ends with the whole of it. -/
theorem same_result : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun r h c => ⟨(h.1 c).2.trans (gathered_eq (F := Ideal) m _ hagree c), (h.1 c).1⟩) (run_main (F := Ideal) m ρ)
  · exact (θ_run Cert.ReferenceIdeal.defs _ _).mono (fun r h => ⟨h 0, h 0⟩) (reference_run m' ρ')

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.same_result⟩

end Cert.Proof

end
